-- ==== Defs.lean ====
def Pre_Kernel [hPre_indices_in_range : Cert.Pre_indices_in_range.Facts] (m : (ℓ : Loc Cert.Kernel.nD Cert.Kernel.τ Cert.Kernel.sig) → Buf (Elt Bits) ℓ) : Prop :=
  ∀ c : Dev Cert.Kernel.nD,
    (Cert.Pre_indices_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_KernelIdeal_limits_well_posed [hPre_limits_well_posed : Cert.Pre_limits_well_posed.Facts] (m : (ℓ : Loc Cert.KernelIdeal.nD Cert.KernelIdeal.τ Cert.KernelIdeal.sig) → Buf (Elt Ideal) ℓ) : Prop :=
  ∀ c : Dev Cert.KernelIdeal.nD,
    (Cert.Pre_limits_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_limits_well_posed [hPre_limits_well_posed : Cert.Pre_limits_well_posed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_limits_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] [hPre_indices_in_range : Cert.Pre_indices_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_limits_well_posed [hKernelIdeal : Cert.KernelIdeal.Facts] [hPre_limits_well_posed : Cert.Pre_limits_well_posed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_limits_well_posed m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_limits_well_posed [hReferenceIdeal : Cert.ReferenceIdeal.Facts] [hPre_limits_well_posed : Cert.Pre_limits_well_posed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_limits_well_posed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_limits_well_posed [hKernelIdeal : Cert.KernelIdeal.Facts] [hReferenceIdeal : Cert.ReferenceIdeal.Facts] [hPre_limits_well_posed : Cert.Pre_limits_well_posed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_limits_well_posed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_indices_in_range : Cert.Pre_indices_in_range.Facts) (hPre_limits_well_posed : Cert.Pre_limits_well_posed.Facts),
    quiescent_Kernel (hKernel := hKernel) (hPre_indices_in_range := hPre_indices_in_range)
    ∧ quiescent_KernelIdeal (hKernelIdeal := hKernelIdeal) (hPre_indices_in_range := hPre_indices_in_range)
    ∧ quiescent_KernelIdeal_pre_limits_well_posed (hKernelIdeal := hKernelIdeal) (hPre_limits_well_posed := hPre_limits_well_posed)
    ∧ quiescent_ReferenceIdeal (hReferenceIdeal := hReferenceIdeal)
    ∧ quiescent_ReferenceIdeal_pre_limits_well_posed (hReferenceIdeal := hReferenceIdeal) (hPre_limits_well_posed := hPre_limits_well_posed)
    ∧ preserves_Kernel_KernelIdeal
    ∧ algebraic_KernelIdeal_ReferenceIdeal_pre_limits_well_posed (hKernelIdeal := hKernelIdeal) (hReferenceIdeal := hReferenceIdeal) (hPre_limits_well_posed := hPre_limits_well_posed)
-- ==== Pre_indices_in_range.lean ====
abbrev S16384x512 : Shape := ⟨2, ![16384, 512]⟩
abbrev S16384x4096 : Shape := ⟨2, ![16384, 4096]⟩
abbrev S512 : Shape := ⟨1, ![512]⟩
abbrev S1024 : Shape := ⟨1, ![1024]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel
  bcast_S_S1024 : S_.BroadcastsInDim S1024 (![] : Fin 0 → Fin S1024.rank)
  reducesTo_S1024_S_d0 : S1024.ReducesTo [0] S_

variable [Facts]

def fn_part1 {F : FTy → Type} [FloatOps F] (main_arg15 : IVec S512 32) (main_arg16 : IVec S512 32) (main_v12 : IVec S_ 1) (main_v14 : IVec S512 1) (main_v15 : IVec S512 32) : IVec S_ 1 :=
  let main_v16 : IVec S512 1 := cmpi .slt main_arg15 main_v15
  let main_v17 : IVec S512 1 := andi main_v14 main_v16
  let main_c_7 : IVec S_ 1 := constantI S_ 1 1#1
  let main_v18 : IVec S_ 1 := (fun x v => Host.reduce IntOp.andi x v reducesTo_S512_S_d0 h_S_) main_v17 main_c_7
  let main_v19 : IVec S_ 1 := andi main_v12 main_v18
  let main_c_8 : IVec S_ 32 := constantI S_ 32 0#32
  let main_v20 : IVec S512 32 := broadcastInDim S512 ![] bcast_S_S512 main_c_8
  let main_v21 : IVec S512 1 := cmpi .sge main_arg16 main_v20
  let main_c_9 : IVec S_ 32 := constantI S_ 32 512#32
  let main_v22 : IVec S512 32 := broadcastInDim S512 ![] bcast_S_S512 main_c_9
  let main_v23 : IVec S512 1 := cmpi .slt main_arg16 main_v22
  let main_v24 : IVec S512 1 := andi main_v21 main_v23
  let main_c_10 : IVec S_ 1 := constantI S_ 1 1#1
  let main_v25 : IVec S_ 1 := (fun x v => Host.reduce IntOp.andi x v reducesTo_S512_S_d0 h_S_) main_v24 main_c_10
  let main_v26 : IVec S_ 1 := andi main_v19 main_v25
  main_v26

def fn {F : FTy → Type} [FloatOps F] (main_arg0 : FVec F S16384x512 .f32) (main_arg1 : FVec F S16384x4096 .f32) (main_arg2 : FVec F S512 .f32) (main_arg3 : FVec F S512 .f32) (main_arg4 : FVec F S512 .f32) (main_arg5 : FVec F S1024 .f32) (main_arg6 : FVec F S1024 .f32) (main_arg7 : FVec F S1024 .f32) (main_arg8 : FVec F S512 .f32) (main_arg9 : FVec F S512 .f32) (main_arg10 : FVec F S512 .f32) (main_arg11 : FVec F S512 .f32) (main_arg12 : FVec F S512 .f32) (main_arg13 : IVec S512 32) (main_arg14 : IVec S1024 32) (main_arg15 : IVec S512 32) (main_arg16 : IVec S512 32) : IVec S_ 1 :=
  let main_c : IVec S_ 32 := constantI S_ 32 0#32
  let main_v0 : IVec S512 32 := broadcastInDim S512 ![] bcast_S_S512 main_c
  let main_v1 : IVec S512 1 := cmpi .sge main_arg13 main_v0
  let main_c_0 : IVec S_ 32 := constantI S_ 32 512#32
  let main_v2 : IVec S512 32 := broadcastInDim S512 ![] bcast_S_S512 main_c_0
  let main_v3 : IVec S512 1 := cmpi .slt main_arg13 main_v2
  let main_v4 : IVec S512 1 := andi main_v1 main_v3
  let main_c_1 : IVec S_ 1 := constantI S_ 1 1#1
  let main_v5 : IVec S_ 1 := (fun x v => Host.reduce IntOp.andi x v reducesTo_S512_S_d0 h_S_) main_v4 main_c_1
  let main_c_2 : IVec S_ 32 := constantI S_ 32 0#32
  let main_v6 : IVec S1024 32 := broadcastInDim S1024 ![] bcast_S_S1024 main_c_2
  let main_v7 : IVec S1024 1 := cmpi .sge main_arg14 main_v6
  let main_c_3 : IVec S_ 32 := constantI S_ 32 4096#32
  let main_v8 : IVec S1024 32 := broadcastInDim S1024 ![] bcast_S_S1024 main_c_3
  let main_v9 : IVec S1024 1 := cmpi .slt main_arg14 main_v8
  let main_v10 : IVec S1024 1 := andi main_v7 main_v9
  let main_c_4 : IVec S_ 1 := constantI S_ 1 1#1
  let main_v11 : IVec S_ 1 := (fun x v => Host.reduce IntOp.andi x v reducesTo_S1024_S_d0 h_S_) main_v10 main_c_4
  let main_v12 : IVec S_ 1 := andi main_v5 main_v11
  let main_c_5 : IVec S_ 32 := constantI S_ 32 0#32
  let main_v13 : IVec S512 32 := broadcastInDim S512 ![] bcast_S_S512 main_c_5
  let main_v14 : IVec S512 1 := cmpi .sge main_arg15 main_v13
  let main_c_6 : IVec S_ 32 := constantI S_ 32 512#32
  let main_v15 : IVec S512 32 := broadcastInDim S512 ![] bcast_S_S512 main_c_6
  fn_part1 (F := F) main_arg15 main_arg16 main_v12 main_v14 main_v15
-- ==== Pre_limits_well_posed.lean ====
abbrev S16384x512 : Shape := ⟨2, ![16384, 512]⟩
abbrev S16384x4096 : Shape := ⟨2, ![16384, 4096]⟩
abbrev S512 : Shape := ⟨1, ![512]⟩
abbrev S1024 : Shape := ⟨1, ![1024]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel
  bcast_S_S1024 : S_.BroadcastsInDim S1024 (![] : Fin 0 → Fin S1024.rank)
  reducesTo_S1024_S_d0 : S1024.ReducesTo [0] S_

variable [Facts]

def fn_part4 {F : FTy → Type} [FloatOps F] (main_v64 : IVec S_ 1) (main_v67 : IVec S512 1) (main_c_25 : IVec S_ 1) : IVec S_ 1 :=
  let main_v68 : IVec S_ 1 := (fun x v => Host.reduce IntOp.andi x v reducesTo_S512_S_d0 h_S_) main_v67 main_c_25
  let main_v69 : IVec S_ 1 := andi main_v64 main_v68
  main_v69

def fn_part3 {F : FTy → Type} [FloatOps F] (main_arg5 : FVec F S1024 .f32) (main_arg6 : FVec F S1024 .f32) (main_arg7 : FVec F S1024 .f32) (main_arg10 : FVec F S512 .f32) (main_v45 : IVec S_ 1) (main_v48 : IVec S1024 1) (main_v49 : FVec F S1024 .f32) (main_v50 : FVec F S1024 .f32) : IVec S_ 1 :=
  let main_v51 : IVec S1024 1 := cmpf .olt main_v49 main_v50
  let main_v52 : IVec S1024 1 := andi main_v48 main_v51
  let main_c_19 : IVec S_ 1 := constantI S_ 1 1#1
  let main_v53 : IVec S_ 1 := (fun x v => Host.reduce IntOp.andi x v reducesTo_S1024_S_d0 h_S_) main_v52 main_c_19
  let main_v54 : IVec S_ 1 := andi main_v45 main_v53
  let main_v55 : IVec S1024 1 := cmpf .ole main_arg5 main_arg6
  let main_c_20 : IVec S_ 1 := constantI S_ 1 1#1
  let main_v56 : IVec S_ 1 := (fun x v => Host.reduce IntOp.andi x v reducesTo_S1024_S_d0 h_S_) main_v55 main_c_20
  let main_v57 : IVec S_ 1 := andi main_v54 main_v56
  let main_cst_21 : FVec F S_ .f32 := constant S_ .f32 0x00000000#32
  let main_v58 : FVec F S1024 .f32 := broadcastInDim S1024 ![] bcast_S_S1024 main_cst_21
  let main_v59 : IVec S1024 1 := cmpf .oge main_arg7 main_v58
  let main_cst_22 : FVec F S_ .f32 := constant S_ .f32 0x7F800000#32
  let main_v60 : FVec F S1024 .f32 := broadcastInDim S1024 ![] bcast_S_S1024 main_cst_22
  let main_v61 : IVec S1024 1 := cmpf .olt main_arg7 main_v60
  let main_v62 : IVec S1024 1 := andi main_v59 main_v61
  let main_c_23 : IVec S_ 1 := constantI S_ 1 1#1
  let main_v63 : IVec S_ 1 := (fun x v => Host.reduce IntOp.andi x v reducesTo_S1024_S_d0 h_S_) main_v62 main_c_23
  let main_v64 : IVec S_ 1 := andi main_v57 main_v63
  let main_v65 : FVec F S512 .f32 := Host.absf main_arg10
  let main_cst_24 : FVec F S_ .f32 := constant S_ .f32 0x7F800000#32
  let main_v66 : FVec F S512 .f32 := broadcastInDim S512 ![] bcast_S_S512 main_cst_24
  let main_v67 : IVec S512 1 := cmpf .olt main_v65 main_v66
  let main_c_25 : IVec S_ 1 := constantI S_ 1 1#1
  fn_part4 (F := F) main_v64 main_v67 main_c_25

def fn_part2 {F : FTy → Type} [FloatOps F] (main_arg2 : FVec F S512 .f32) (main_arg3 : FVec F S512 .f32) (main_arg4 : FVec F S512 .f32) (main_arg5 : FVec F S1024 .f32) (main_arg6 : FVec F S1024 .f32) (main_arg7 : FVec F S1024 .f32) (main_arg10 : FVec F S512 .f32) (main_v26 : IVec S_ 1) (main_v33 : IVec S512 1) : IVec S_ 1 :=
  let main_c_12 : IVec S_ 1 := constantI S_ 1 1#1
  let main_v34 : IVec S_ 1 := (fun x v => Host.reduce IntOp.andi x v reducesTo_S512_S_d0 h_S_) main_v33 main_c_12
  let main_v35 : IVec S_ 1 := andi main_v26 main_v34
  let main_v36 : IVec S512 1 := cmpf .ole main_arg2 main_arg3
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v35 main_v37
  let main_cst_14 : FVec F S_ .f32 := constant S_ .f32 0x00000000#32
  let main_v39 : FVec F S512 .f32 := broadcastInDim S512 ![] bcast_S_S512 main_cst_14
  let main_v40 : IVec S512 1 := cmpf .oge main_arg4 main_v39
  let main_cst_15 : FVec F S_ .f32 := constant S_ .f32 0x7F800000#32
  let main_v41 : FVec F S512 .f32 := broadcastInDim S512 ![] bcast_S_S512 main_cst_15
  let main_v42 : IVec S512 1 := cmpf .olt main_arg4 main_v41
  let main_v43 : IVec S512 1 := andi main_v40 main_v42
  let main_c_16 : IVec S_ 1 := constantI S_ 1 1#1
  let main_v44 : IVec S_ 1 := (fun x v => Host.reduce IntOp.andi x v reducesTo_S512_S_d0 h_S_) main_v43 main_c_16
  let main_v45 : IVec S_ 1 := andi main_v38 main_v44
  let main_v46 : FVec F S1024 .f32 := Host.absf main_arg5
  let main_cst_17 : FVec F S_ .f32 := constant S_ .f32 0x7F800000#32
  let main_v47 : FVec F S1024 .f32 := broadcastInDim S1024 ![] bcast_S_S1024 main_cst_17
  let main_v48 : IVec S1024 1 := cmpf .olt main_v46 main_v47
  let main_v49 : FVec F S1024 .f32 := Host.absf main_arg6
  let main_cst_18 : FVec F S_ .f32 := constant S_ .f32 0x7F800000#32
  let main_v50 : FVec F S1024 .f32 := broadcastInDim S1024 ![] bcast_S_S1024 main_cst_18
  fn_part3 (F := F) main_arg5 main_arg6 main_arg7 main_arg10 main_v45 main_v48 main_v49 main_v50

def fn_part1 {F : FTy → Type} [FloatOps F] (main_arg2 : FVec F S512 .f32) (main_arg3 : FVec F S512 .f32) (main_arg4 : FVec F S512 .f32) (main_arg5 : FVec F S1024 .f32) (main_arg6 : FVec F S1024 .f32) (main_arg7 : FVec F S1024 .f32) (main_arg10 : FVec F S512 .f32) (main_arg15 : IVec S512 32) (main_arg16 : IVec S512 32) (main_v12 : IVec S_ 1) (main_v14 : IVec S512 1) (main_v15 : IVec S512 32) : IVec S_ 1 :=
  let main_v16 : IVec S512 1 := cmpi .slt main_arg15 main_v15
  let main_v17 : IVec S512 1 := andi main_v14 main_v16
  let main_c_7 : IVec S_ 1 := constantI S_ 1 1#1
  let main_v18 : IVec S_ 1 := (fun x v => Host.reduce IntOp.andi x v reducesTo_S512_S_d0 h_S_) main_v17 main_c_7
  let main_v19 : IVec S_ 1 := andi main_v12 main_v18
  let main_c_8 : IVec S_ 32 := constantI S_ 32 0#32
  let main_v20 : IVec S512 32 := broadcastInDim S512 ![] bcast_S_S512 main_c_8
  let main_v21 : IVec S512 1 := cmpi .sge main_arg16 main_v20
  let main_c_9 : IVec S_ 32 := constantI S_ 32 512#32
  let main_v22 : IVec S512 32 := broadcastInDim S512 ![] bcast_S_S512 main_c_9
  let main_v23 : IVec S512 1 := cmpi .slt main_arg16 main_v22
  let main_v24 : IVec S512 1 := andi main_v21 main_v23
  let main_c_10 : IVec S_ 1 := constantI S_ 1 1#1
  let main_v25 : IVec S_ 1 := (fun x v => Host.reduce IntOp.andi x v reducesTo_S512_S_d0 h_S_) main_v24 main_c_10
  let main_v26 : IVec S_ 1 := andi main_v19 main_v25
  let main_v27 : FVec F S512 .f32 := Host.absf main_arg2
  let main_cst : FVec F S_ .f32 := constant S_ .f32 0x7F800000#32
  let main_v28 : FVec F S512 .f32 := broadcastInDim S512 ![] bcast_S_S512 main_cst
  let main_v29 : IVec S512 1 := cmpf .olt main_v27 main_v28
  let main_v30 : FVec F S512 .f32 := Host.absf main_arg3
  let main_cst_11 : FVec F S_ .f32 := constant S_ .f32 0x7F800000#32
  let main_v31 : FVec F S512 .f32 := broadcastInDim S512 ![] bcast_S_S512 main_cst_11
  let main_v32 : IVec S512 1 := cmpf .olt main_v30 main_v31
  let main_v33 : IVec S512 1 := andi main_v29 main_v32
  fn_part2 (F := F) main_arg2 main_arg3 main_arg4 main_arg5 main_arg6 main_arg7 main_arg10 main_v26 main_v33

def fn {F : FTy → Type} [FloatOps F] (main_arg0 : FVec F S16384x512 .f32) (main_arg1 : FVec F S16384x4096 .f32) (main_arg2 : FVec F S512 .f32) (main_arg3 : FVec F S512 .f32) (main_arg4 : FVec F S512 .f32) (main_arg5 : FVec F S1024 .f32) (main_arg6 : FVec F S1024 .f32) (main_arg7 : FVec F S1024 .f32) (main_arg8 : FVec F S512 .f32) (main_arg9 : FVec F S512 .f32) (main_arg10 : FVec F S512 .f32) (main_arg11 : FVec F S512 .f32) (main_arg12 : FVec F S512 .f32) (main_arg13 : IVec S512 32) (main_arg14 : IVec S1024 32) (main_arg15 : IVec S512 32) (main_arg16 : IVec S512 32) : IVec S_ 1 :=
  let main_c : IVec S_ 32 := constantI S_ 32 0#32
  let main_v0 : IVec S512 32 := broadcastInDim S512 ![] bcast_S_S512 main_c
  let main_v1 : IVec S512 1 := cmpi .sge main_arg13 main_v0
  let main_c_0 : IVec S_ 32 := constantI S_ 32 512#32
  let main_v2 : IVec S512 32 := broadcastInDim S512 ![] bcast_S_S512 main_c_0
  let main_v3 : IVec S512 1 := cmpi .slt main_arg13 main_v2
  let main_v4 : IVec S512 1 := andi main_v1 main_v3
  let main_c_1 : IVec S_ 1 := constantI S_ 1 1#1
  let main_v5 : IVec S_ 1 := (fun x v => Host.reduce IntOp.andi x v reducesTo_S512_S_d0 h_S_) main_v4 main_c_1
  let main_c_2 : IVec S_ 32 := constantI S_ 32 0#32
  let main_v6 : IVec S1024 32 := broadcastInDim S1024 ![] bcast_S_S1024 main_c_2
  let main_v7 : IVec S1024 1 := cmpi .sge main_arg14 main_v6
  let main_c_3 : IVec S_ 32 := constantI S_ 32 4096#32
  let main_v8 : IVec S1024 32 := broadcastInDim S1024 ![] bcast_S_S1024 main_c_3
  let main_v9 : IVec S1024 1 := cmpi .slt main_arg14 main_v8
  let main_v10 : IVec S1024 1 := andi main_v7 main_v9
  let main_c_4 : IVec S_ 1 := constantI S_ 1 1#1
  let main_v11 : IVec S_ 1 := (fun x v => Host.reduce IntOp.andi x v reducesTo_S1024_S_d0 h_S_) main_v10 main_c_4
  let main_v12 : IVec S_ 1 := andi main_v5 main_v11
  let main_c_5 : IVec S_ 32 := constantI S_ 32 0#32
  let main_v13 : IVec S512 32 := broadcastInDim S512 ![] bcast_S_S512 main_c_5
  let main_v14 : IVec S512 1 := cmpi .sge main_arg15 main_v13
  let main_c_6 : IVec S_ 32 := constantI S_ 32 512#32
  let main_v15 : IVec S512 32 := broadcastInDim S512 ![] bcast_S_S512 main_c_6
  fn_part1 (F := F) main_arg2 main_arg3 main_arg4 main_arg5 main_arg6 main_arg7 main_arg10 main_arg15 main_arg16 main_v12 main_v14 main_v15
-- ==== Kernel.lean ====
abbrev S16384x512 : Shape := ⟨2, ![16384, 512]⟩
abbrev S16384x4096 : Shape := ⟨2, ![16384, 4096]⟩
abbrev S512 : Shape := ⟨1, ![512]⟩
abbrev S1024 : Shape := ⟨1, ![1024]⟩
abbrev S_ : Shape := ⟨0, ![]⟩
abbrev S7168 : Shape := ⟨1, ![7168]⟩
abbrev S2560 : Shape := ⟨1, ![2560]⟩
abbrev S67108864 : Shape := ⟨1, ![67108864]⟩
abbrev S8388608 : Shape := ⟨1, ![8388608]⟩
abbrev S32768 : Shape := ⟨1, ![32768]⟩
abbrev S4096 : Shape := ⟨1, ![4096]⟩
abbrev S16 : Shape := ⟨1, ![16]⟩

abbrev nBuf : Table → Nat
  | .hbm => 46
  | .local .scVector .vmem => 5
  | _ => 0

abbrev bufTy : (tb : Table) → Fin (nBuf tb) → BufTy
  | .hbm, ⟨0, _⟩ => ⟨S16384x512, .f32⟩
  | .hbm, ⟨1, _⟩ => ⟨S16384x4096, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S512, .i32⟩
  | .hbm, ⟨14, _⟩ => ⟨S1024, .i32⟩
  | .hbm, ⟨15, _⟩ => ⟨S512, .i32⟩
  | .hbm, ⟨16, _⟩ => ⟨S512, .i32⟩
  | .hbm, ⟨17, _⟩ => ⟨S_, .f32⟩
  | .hbm, ⟨18, _⟩ => ⟨S512, .f32⟩
  | .hbm, ⟨19, _⟩ => ⟨S512, .f32⟩
  | .hbm, ⟨20, _⟩ => ⟨S512, .f32⟩
  | .hbm, ⟨21, _⟩ => ⟨S512, .f32⟩
  | .hbm, ⟨22, _⟩ => ⟨S_, .f32⟩
  | .hbm, ⟨23, _⟩ => ⟨S512, .f32⟩
  | .hbm, ⟨24, _⟩ => ⟨S512, .f32⟩
  | .hbm, ⟨25, _⟩ => ⟨S512, .f32⟩
  | .hbm, ⟨26, _⟩ => ⟨S512, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1024, .f32⟩
  | .hbm, ⟨31, _⟩ => ⟨S1024, .f32⟩
  | .hbm, ⟨32, _⟩ => ⟨S_, .f32⟩
  | .hbm, ⟨33, _⟩ => ⟨S1024, .f32⟩
  | .hbm, ⟨34, _⟩ => ⟨S1024, .f32⟩
  | .hbm, ⟨35, _⟩ => ⟨S1024, .f32⟩
  | .hbm, ⟨36, _⟩ => ⟨S1024, .f32⟩
  | .hbm, ⟨37, _⟩ => ⟨S512, .f32⟩
  | .hbm, ⟨38, _⟩ => ⟨S512, .f32⟩
  | .hbm, ⟨39, _⟩ => ⟨S7168, .f32⟩
  | .hbm, ⟨40, _⟩ => ⟨S2560, .i32⟩
  | .hbm, ⟨41, _⟩ => ⟨S67108864, .f32⟩
  | .hbm, ⟨42, _⟩ => ⟨S8388608, .f32⟩
  | .hbm, ⟨43, _⟩ => ⟨S512, .f32⟩
  | .hbm, ⟨44, _⟩ => ⟨S_, .f32⟩
  | .hbm, ⟨45, _⟩ => ⟨S_, .f32⟩
  | .local .scVector .vmem, ⟨0, _⟩ => ⟨S32768, .f32⟩
  | .local .scVector .vmem, ⟨1, _⟩ => ⟨S4096, .f32⟩
  | .local .scVector .vmem, ⟨2, _⟩ => ⟨S7168, .f32⟩
  | .local .scVector .vmem, ⟨3, _⟩ => ⟨S2560, .i32⟩
  | .local .scVector .vmem, ⟨4, _⟩ => ⟨S16, .f32⟩
  | _, _ => ⟨S16384x512, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_v20_scv : Ref sig .scVector := ⟨.hbm, 41, rfl⟩
abbrev main_v21_scv : Ref sig .scVector := ⟨.hbm, 42, rfl⟩
abbrev main_v18_scv : Ref sig .scVector := ⟨.hbm, 39, rfl⟩
abbrev main_v19_scv : Ref sig .scVector := ⟨.hbm, 40, rfl⟩
abbrev main_v22_scv : Ref sig .scVector := ⟨.hbm, 43, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c64_i32 : BitVec 32 := 64#32
  let v4 : BitVec 32 := Scalar.addi c0_i32 c64_i32
  let c1_i32 : BitVec 32 := 1#32
  ⟨c0_i32, v4, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32 : BitVec 32 := 0#32
  let c1_i32 : BitVec 32 := 1#32
  let arg12 : BitVec 32 := Scf.iv c0_i32 c1_i32 k0_t1
  let c8_i32 : BitVec 32 := 8#32
  let v8 : BitVec 32 := Scalar.muli arg12 c8_i32
  let v9 : BitVec 32 := Scalar.addi v2 v8
  let c4096_i32 : BitVec 32 := 4096#32
  let v10 : BitVec 32 := Scalar.muli v9 c4096_i32
  ![v10.toNat]
def k0_off2 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32 : BitVec 32 := 0#32
  let c1_i32 : BitVec 32 := 1#32
  let arg12 : BitVec 32 := Scf.iv c0_i32 c1_i32 k0_t1
  let c8_i32 : BitVec 32 := 8#32
  let v8 : BitVec 32 := Scalar.muli arg12 c8_i32
  let v9 : BitVec 32 := Scalar.addi v2 v8
  let c512_i32_1 : BitVec 32 := 512#32
  let v11 : BitVec 32 := Scalar.muli v9 c512_i32_1
  ![v11.toNat]
@[reducible] def k0_t2_loop : Scf.Loop 32 :=
  let c0_i32_2 : BitVec 32 := 0#32
  let c64_i32_3 : BitVec 32 := 64#32
  let v12 : BitVec 32 := Scalar.addi c0_i32_2 c64_i32_3
  let c1_i32_4 : BitVec 32 := 1#32
  ⟨c0_i32_2, v12, c1_i32_4⟩
def k0_off3 (k0_t2 : Fin k0_t2_loop.trips) : Fin 1 → Nat :=
  let c512_i32_14 : BitVec 32 := 512#32
  let c0_i32_2 : BitVec 32 := 0#32
  let c1_i32_4 : BitVec 32 := 1#32
  let arg14 : BitVec 32 := Scf.iv c0_i32_2 c1_i32_4 k0_t2
  let c16_i32_13 : BitVec 32 := 16#32
  let v18 : BitVec 32 := Scalar.muli arg14 c16_i32_13
  let v19 : BitVec 32 := Scalar.addi c512_i32_14 v18
  let v20 : Index := Scalar.indexCast v19
  ![v20.toNat]
def k0_off4 (k0_t2 : Fin k0_t2_loop.trips) (c1536_i32 : BitVec 32) : Fin 1 → Nat :=
  let c0_i32_2 : BitVec 32 := 0#32
  let c1_i32_4 : BitVec 32 := 1#32
  let arg14 : BitVec 32 := Scf.iv c0_i32_2 c1_i32_4 k0_t2
  let c16_i32_13 : BitVec 32 := 16#32
  let v18 : BitVec 32 := Scalar.muli arg14 c16_i32_13
  let v22 : BitVec 32 := Scalar.addi c1536_i32 v18
  let v23 : Index := Scalar.indexCast v22
  ![v23.toNat]

def k0_chk1 (v32 : IVec S16 32) : Prop :=
  (∀ a x, ((![v32] : Fin 1 → IVec S16 32) a x).toNat < S32768.size a)
theorem k0_idx1_inb : ∀ (v32 : IVec S16 32) (k0_hw1 : k0_chk1 v32), ∀ a x, ((![v32] : Fin 1 → IVec S16 32) a x).toNat < S32768.size a := fun v32 k0_hw1 => k0_hw1

def k0_chk2 (v43 : IVec S16 32) : Prop :=
  (∀ a x, ((![v43] : Fin 1 → IVec S16 32) a x).toNat < S32768.size a)
theorem k0_idx2_inb : ∀ (v43 : IVec S16 32) (k0_hw2 : k0_chk2 v43), ∀ a x, ((![v43] : Fin 1 → IVec S16 32) a x).toNat < S32768.size a := fun v43 k0_hw2 => k0_hw2

def k0_chk3 (v54 : IVec S16 32) : Prop :=
  (∀ a x, ((![v54] : Fin 1 → IVec S16 32) a x).toNat < S32768.size a)
theorem k0_idx3_inb : ∀ (v54 : IVec S16 32) (k0_hw3 : k0_chk3 v54), ∀ a x, ((![v54] : Fin 1 → IVec S16 32) a x).toNat < S32768.size a := fun v54 k0_hw3 => k0_hw3

def k0_chk4 (v65 : IVec S16 32) : Prop :=
  (∀ a x, ((![v65] : Fin 1 → IVec S16 32) a x).toNat < S32768.size a)
theorem k0_idx4_inb : ∀ (v65 : IVec S16 32) (k0_hw4 : k0_chk4 v65), ∀ a x, ((![v65] : Fin 1 → IVec S16 32) a x).toNat < S32768.size a := fun v65 k0_hw4 => k0_hw4

def k0_chk5 (v76 : IVec S16 32) : Prop :=
  (∀ a x, ((![v76] : Fin 1 → IVec S16 32) a x).toNat < S32768.size a)
theorem k0_idx5_inb : ∀ (v76 : IVec S16 32) (k0_hw5 : k0_chk5 v76), ∀ a x, ((![v76] : Fin 1 → IVec S16 32) a x).toNat < S32768.size a := fun v76 k0_hw5 => k0_hw5

def k0_chk6 (v87 : IVec S16 32) : Prop :=
  (∀ a x, ((![v87] : Fin 1 → IVec S16 32) a x).toNat < S32768.size a)
theorem k0_idx6_inb : ∀ (v87 : IVec S16 32) (k0_hw6 : k0_chk6 v87), ∀ a x, ((![v87] : Fin 1 → IVec S16 32) a x).toNat < S32768.size a := fun v87 k0_hw6 => k0_hw6

def k0_chk7 (v98 : IVec S16 32) : Prop :=
  (∀ a x, ((![v98] : Fin 1 → IVec S16 32) a x).toNat < S32768.size a)
theorem k0_idx7_inb : ∀ (v98 : IVec S16 32) (k0_hw7 : k0_chk7 v98), ∀ a x, ((![v98] : Fin 1 → IVec S16 32) a x).toNat < S32768.size a := fun v98 k0_hw7 => k0_hw7

def k0_chk8 (v109 : IVec S16 32) : Prop :=
  (∀ a x, ((![v109] : Fin 1 → IVec S16 32) a x).toNat < S32768.size a)
theorem k0_idx8_inb : ∀ (v109 : IVec S16 32) (k0_hw8 : k0_chk8 v109), ∀ a x, ((![v109] : Fin 1 → IVec S16 32) a x).toNat < S32768.size a := fun v109 k0_hw8 => k0_hw8
@[reducible] def k0_t3_loop : Scf.Loop 32 :=
  let c0_i32_6 : BitVec 32 := 0#32
  let c32_i32 : BitVec 32 := 32#32
  let v14 : BitVec 32 := Scalar.addi c0_i32_6 c32_i32
  let c1_i32_7 : BitVec 32 := 1#32
  ⟨c0_i32_6, v14, c1_i32_7⟩
def k0_off5 (k0_t3 : Fin k0_t3_loop.trips) : Fin 1 → Nat :=
  let c0_i32_14 : BitVec 32 := 0#32
  let c0_i32_6 : BitVec 32 := 0#32
  let c1_i32_7 : BitVec 32 := 1#32
  let arg14 : BitVec 32 := Scf.iv c0_i32_6 c1_i32_7 k0_t3
  let c16_i32_13 : BitVec 32 := 16#32
  let v18 : BitVec 32 := Scalar.muli arg14 c16_i32_13
  let v19 : BitVec 32 := Scalar.addi c0_i32_14 v18
  let v20 : Index := Scalar.indexCast v19
  ![v20.toNat]
def k0_off6 (k0_t3 : Fin k0_t3_loop.trips) (c0_i32_15 : BitVec 32) : Fin 1 → Nat :=
  let c0_i32_6 : BitVec 32 := 0#32
  let c1_i32_7 : BitVec 32 := 1#32
  let arg14 : BitVec 32 := Scf.iv c0_i32_6 c1_i32_7 k0_t3
  let c16_i32_13 : BitVec 32 := 16#32
  let v18 : BitVec 32 := Scalar.muli arg14 c16_i32_13
  let v22 : BitVec 32 := Scalar.addi c0_i32_15 v18
  let v23 : Index := Scalar.indexCast v22
  ![v23.toNat]

def k0_chk9 (v32 : IVec S16 32) : Prop :=
  (∀ a x, ((![v32] : Fin 1 → IVec S16 32) a x).toNat < S4096.size a)
theorem k0_idx9_inb : ∀ (v32 : IVec S16 32) (k0_hw9 : k0_chk9 v32), ∀ a x, ((![v32] : Fin 1 → IVec S16 32) a x).toNat < S4096.size a := fun v32 k0_hw9 => k0_hw9

def k0_chk10 (v43 : IVec S16 32) : Prop :=
  (∀ a x, ((![v43] : Fin 1 → IVec S16 32) a x).toNat < S4096.size a)
theorem k0_idx10_inb : ∀ (v43 : IVec S16 32) (k0_hw10 : k0_chk10 v43), ∀ a x, ((![v43] : Fin 1 → IVec S16 32) a x).toNat < S4096.size a := fun v43 k0_hw10 => k0_hw10

def k0_chk11 (v54 : IVec S16 32) : Prop :=
  (∀ a x, ((![v54] : Fin 1 → IVec S16 32) a x).toNat < S4096.size a)
theorem k0_idx11_inb : ∀ (v54 : IVec S16 32) (k0_hw11 : k0_chk11 v54), ∀ a x, ((![v54] : Fin 1 → IVec S16 32) a x).toNat < S4096.size a := fun v54 k0_hw11 => k0_hw11

def k0_chk12 (v65 : IVec S16 32) : Prop :=
  (∀ a x, ((![v65] : Fin 1 → IVec S16 32) a x).toNat < S4096.size a)
theorem k0_idx12_inb : ∀ (v65 : IVec S16 32) (k0_hw12 : k0_chk12 v65), ∀ a x, ((![v65] : Fin 1 → IVec S16 32) a x).toNat < S4096.size a := fun v65 k0_hw12 => k0_hw12

def k0_chk13 (v76 : IVec S16 32) : Prop :=
  (∀ a x, ((![v76] : Fin 1 → IVec S16 32) a x).toNat < S4096.size a)
theorem k0_idx13_inb : ∀ (v76 : IVec S16 32) (k0_hw13 : k0_chk13 v76), ∀ a x, ((![v76] : Fin 1 → IVec S16 32) a x).toNat < S4096.size a := fun v76 k0_hw13 => k0_hw13

def k0_chk14 (v87 : IVec S16 32) : Prop :=
  (∀ a x, ((![v87] : Fin 1 → IVec S16 32) a x).toNat < S4096.size a)
theorem k0_idx14_inb : ∀ (v87 : IVec S16 32) (k0_hw14 : k0_chk14 v87), ∀ a x, ((![v87] : Fin 1 → IVec S16 32) a x).toNat < S4096.size a := fun v87 k0_hw14 => k0_hw14

def k0_chk15 (v98 : IVec S16 32) : Prop :=
  (∀ a x, ((![v98] : Fin 1 → IVec S16 32) a x).toNat < S4096.size a)
theorem k0_idx15_inb : ∀ (v98 : IVec S16 32) (k0_hw15 : k0_chk15 v98), ∀ a x, ((![v98] : Fin 1 → IVec S16 32) a x).toNat < S4096.size a := fun v98 k0_hw15 => k0_hw15

def k0_chk16 (v109 : IVec S16 32) : Prop :=
  (∀ a x, ((![v109] : Fin 1 → IVec S16 32) a x).toNat < S4096.size a)
theorem k0_idx16_inb : ∀ (v109 : IVec S16 32) (k0_hw16 : k0_chk16 v109), ∀ a x, ((![v109] : Fin 1 → IVec S16 32) a x).toNat < S4096.size a := fun v109 k0_hw16 => k0_hw16
@[reducible] def k0_t4_loop : Scf.Loop 32 :=
  let c0_i32_9 : BitVec 32 := 0#32
  let c32_i32_10 : BitVec 32 := 32#32
  let v16 : BitVec 32 := Scalar.addi c0_i32_9 c32_i32_10
  let c1_i32_11 : BitVec 32 := 1#32
  ⟨c0_i32_9, v16, c1_i32_11⟩
def k0_off7 (k0_t4 : Fin k0_t4_loop.trips) (c1536_i32 : BitVec 32) : Fin 1 → Nat :=
  let c0_i32_9 : BitVec 32 := 0#32
  let c1_i32_11 : BitVec 32 := 1#32
  let arg14 : BitVec 32 := Scf.iv c0_i32_9 c1_i32_11 k0_t4
  let c16_i32_13 : BitVec 32 := 16#32
  let v18 : BitVec 32 := Scalar.muli arg14 c16_i32_13
  let v19 : BitVec 32 := Scalar.addi c1536_i32 v18
  let v20 : Index := Scalar.indexCast v19
  ![v20.toNat]
def k0_off8 (k0_t4 : Fin k0_t4_loop.trips) (c4608_i32 : BitVec 32) : Fin 1 → Nat :=
  let c0_i32_9 : BitVec 32 := 0#32
  let c1_i32_11 : BitVec 32 := 1#32
  let arg14 : BitVec 32 := Scf.iv c0_i32_9 c1_i32_11 k0_t4
  let c16_i32_13 : BitVec 32 := 16#32
  let v18 : BitVec 32 := Scalar.muli arg14 c16_i32_13
  let v25 : BitVec 32 := Scalar.addi c4608_i32 v18
  let v26 : Index := Scalar.indexCast v25
  ![v26.toNat]

def k0_chk17 (v41 : IVec S16 32) : Prop :=
  (∀ a x, ((![v41] : Fin 1 → IVec S16 32) a x).toNat < S4096.size a)
theorem k0_idx17_inb : ∀ (v41 : IVec S16 32) (k0_hw17 : k0_chk17 v41), ∀ a x, ((![v41] : Fin 1 → IVec S16 32) a x).toNat < S4096.size a := fun v41 k0_hw17 => k0_hw17

def k0_chk18 (v44 : IVec S16 32) : Prop :=
  (∀ a x, ((![v44] : Fin 1 → IVec S16 32) a x).toNat < S4096.size a)
theorem k0_idx18_inb : ∀ (v44 : IVec S16 32) (k0_hw18 : k0_chk18 v44), ∀ a x, ((![v44] : Fin 1 → IVec S16 32) a x).toNat < S4096.size a := fun v44 k0_hw18 => k0_hw18

def k0_chk19 (v58 : IVec S16 32) : Prop :=
  (∀ a x, ((![v58] : Fin 1 → IVec S16 32) a x).toNat < S4096.size a)
theorem k0_idx19_inb : ∀ (v58 : IVec S16 32) (k0_hw19 : k0_chk19 v58), ∀ a x, ((![v58] : Fin 1 → IVec S16 32) a x).toNat < S4096.size a := fun v58 k0_hw19 => k0_hw19

def k0_chk20 (v61 : IVec S16 32) : Prop :=
  (∀ a x, ((![v61] : Fin 1 → IVec S16 32) a x).toNat < S4096.size a)
theorem k0_idx20_inb : ∀ (v61 : IVec S16 32) (k0_hw20 : k0_chk20 v61), ∀ a x, ((![v61] : Fin 1 → IVec S16 32) a x).toNat < S4096.size a := fun v61 k0_hw20 => k0_hw20

def k0_chk21 (v75 : IVec S16 32) : Prop :=
  (∀ a x, ((![v75] : Fin 1 → IVec S16 32) a x).toNat < S4096.size a)
theorem k0_idx21_inb : ∀ (v75 : IVec S16 32) (k0_hw21 : k0_chk21 v75), ∀ a x, ((![v75] : Fin 1 → IVec S16 32) a x).toNat < S4096.size a := fun v75 k0_hw21 => k0_hw21

def k0_chk22 (v78 : IVec S16 32) : Prop :=
  (∀ a x, ((![v78] : Fin 1 → IVec S16 32) a x).toNat < S4096.size a)
theorem k0_idx22_inb : ∀ (v78 : IVec S16 32) (k0_hw22 : k0_chk22 v78), ∀ a x, ((![v78] : Fin 1 → IVec S16 32) a x).toNat < S4096.size a := fun v78 k0_hw22 => k0_hw22

def k0_chk23 (v92 : IVec S16 32) : Prop :=
  (∀ a x, ((![v92] : Fin 1 → IVec S16 32) a x).toNat < S4096.size a)
theorem k0_idx23_inb : ∀ (v92 : IVec S16 32) (k0_hw23 : k0_chk23 v92), ∀ a x, ((![v92] : Fin 1 → IVec S16 32) a x).toNat < S4096.size a := fun v92 k0_hw23 => k0_hw23

def k0_chk24 (v95 : IVec S16 32) : Prop :=
  (∀ a x, ((![v95] : Fin 1 → IVec S16 32) a x).toNat < S4096.size a)
theorem k0_idx24_inb : ∀ (v95 : IVec S16 32) (k0_hw24 : k0_chk24 v95), ∀ a x, ((![v95] : Fin 1 → IVec S16 32) a x).toNat < S4096.size a := fun v95 k0_hw24 => k0_hw24

def k0_chk25 (v109 : IVec S16 32) : Prop :=
  (∀ a x, ((![v109] : Fin 1 → IVec S16 32) a x).toNat < S4096.size a)
theorem k0_idx25_inb : ∀ (v109 : IVec S16 32) (k0_hw25 : k0_chk25 v109), ∀ a x, ((![v109] : Fin 1 → IVec S16 32) a x).toNat < S4096.size a := fun v109 k0_hw25 => k0_hw25

def k0_chk26 (v112 : IVec S16 32) : Prop :=
  (∀ a x, ((![v112] : Fin 1 → IVec S16 32) a x).toNat < S4096.size a)
theorem k0_idx26_inb : ∀ (v112 : IVec S16 32) (k0_hw26 : k0_chk26 v112), ∀ a x, ((![v112] : Fin 1 → IVec S16 32) a x).toNat < S4096.size a := fun v112 k0_hw26 => k0_hw26

def k0_chk27 (v126 : IVec S16 32) : Prop :=
  (∀ a x, ((![v126] : Fin 1 → IVec S16 32) a x).toNat < S4096.size a)
theorem k0_idx27_inb : ∀ (v126 : IVec S16 32) (k0_hw27 : k0_chk27 v126), ∀ a x, ((![v126] : Fin 1 → IVec S16 32) a x).toNat < S4096.size a := fun v126 k0_hw27 => k0_hw27

def k0_chk28 (v129 : IVec S16 32) : Prop :=
  (∀ a x, ((![v129] : Fin 1 → IVec S16 32) a x).toNat < S4096.size a)
theorem k0_idx28_inb : ∀ (v129 : IVec S16 32) (k0_hw28 : k0_chk28 v129), ∀ a x, ((![v129] : Fin 1 → IVec S16 32) a x).toNat < S4096.size a := fun v129 k0_hw28 => k0_hw28

def k0_chk29 (v143 : IVec S16 32) : Prop :=
  (∀ a x, ((![v143] : Fin 1 → IVec S16 32) a x).toNat < S4096.size a)
theorem k0_idx29_inb : ∀ (v143 : IVec S16 32) (k0_hw29 : k0_chk29 v143), ∀ a x, ((![v143] : Fin 1 → IVec S16 32) a x).toNat < S4096.size a := fun v143 k0_hw29 => k0_hw29

def k0_chk30 (v146 : IVec S16 32) : Prop :=
  (∀ a x, ((![v146] : Fin 1 → IVec S16 32) a x).toNat < S4096.size a)
theorem k0_idx30_inb : ∀ (v146 : IVec S16 32) (k0_hw30 : k0_chk30 v146), ∀ a x, ((![v146] : Fin 1 → IVec S16 32) a x).toNat < S4096.size a := fun v146 k0_hw30 => k0_hw30

def k0_chk31 (v160 : IVec S16 32) : Prop :=
  (∀ a x, ((![v160] : Fin 1 → IVec S16 32) a x).toNat < S4096.size a)
theorem k0_idx31_inb : ∀ (v160 : IVec S16 32) (k0_hw31 : k0_chk31 v160), ∀ a x, ((![v160] : Fin 1 → IVec S16 32) a x).toNat < S4096.size a := fun v160 k0_hw31 => k0_hw31

def k0_chk32 (v163 : IVec S16 32) : Prop :=
  (∀ a x, ((![v163] : Fin 1 → IVec S16 32) a x).toNat < S4096.size a)
theorem k0_idx32_inb : ∀ (v163 : IVec S16 32) (k0_hw32 : k0_chk32 v163), ∀ a x, ((![v163] : Fin 1 → IVec S16 32) a x).toNat < S4096.size a := fun v163 k0_hw32 => k0_hw32
def k0_off9 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v7 : BitVec 32 := Scalar.muli v1 c16_i32
  ![v7.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x512 : Shape := ⟨2, ![16384, 512]⟩
abbrev S16384x4096 : Shape := ⟨2, ![16384, 4096]⟩
abbrev S512 : Shape := ⟨1, ![512]⟩
abbrev S1024 : Shape := ⟨1, ![1024]⟩
abbrev S_ : Shape := ⟨0, ![]⟩
abbrev S512x1 : Shape := ⟨2, ![512, 1]⟩
abbrev S1 : Shape := ⟨1, ![1]⟩
abbrev S1x1 : Shape := ⟨2, ![1, 1]⟩
abbrev S1x512 : Shape := ⟨2, ![1, 512]⟩
abbrev S1024x1 : Shape := ⟨2, ![1024, 1]⟩
abbrev S16384x1024 : Shape := ⟨2, ![16384, 1024]⟩
abbrev S1x1024 : Shape := ⟨2, ![1, 1024]⟩

abbrev nBuf : Space → Nat
  | .hbm => 179
  | .vmem => 0
  | .smem => 0
  | _ => 0

abbrev hbmTy0_0 (i : Nat) : BufTy := match i % 128 with
  | 0 => ⟨S16384x512, .f32⟩
  | 1 => ⟨S16384x4096, .f32⟩
  | 2 => ⟨S512, .f32⟩
  | 3 => ⟨S512, .f32⟩
  | 4 => ⟨S512, .f32⟩
  | 5 => ⟨S1024, .f32⟩
  | 6 => ⟨S1024, .f32⟩
  | 7 => ⟨S1024, .f32⟩
  | 8 => ⟨S512, .f32⟩
  | 9 => ⟨S512, .f32⟩
  | 10 => ⟨S512, .f32⟩
  | 11 => ⟨S512, .f32⟩
  | 12 => ⟨S512, .f32⟩
  | 13 => ⟨S512, .i32⟩
  | 14 => ⟨S1024, .i32⟩
  | 15 => ⟨S512, .i32⟩
  | 16 => ⟨S512, .i32⟩
  | 17 => ⟨S_, .i32⟩
  | 18 => ⟨S512, .i32⟩
  | 19 => ⟨S512, .i1⟩
  | 20 => ⟨S_, .i32⟩
  | 21 => ⟨S512, .i32⟩
  | 22 => ⟨S512, .i32⟩
  | 23 => ⟨S512, .i32⟩
  | 24 => ⟨S512x1, .i32⟩
  | 25 => ⟨S1, .i32⟩
  | 26 => ⟨S_, .i32⟩
  | 27 => ⟨S512x1, .i32⟩
  | 28 => ⟨S512x1, .i1⟩
  | 29 => ⟨S1x1, .i32⟩
  | 30 => ⟨S512x1, .i32⟩
  | 31 => ⟨S512x1, .i1⟩
  | 32 => ⟨S512x1, .i1⟩
  | 33 => ⟨S_, .i1⟩
  | 34 => ⟨S512, .i1⟩
  | 35 => ⟨S16384x512, .f32⟩
  | 36 => ⟨S16384x512, .i1⟩
  | 37 => ⟨S_, .f32⟩
  | 38 => ⟨S16384x512, .f32⟩
  | 39 => ⟨S16384x512, .f32⟩
  | 40 => ⟨S1x512, .f32⟩
  | 41 => ⟨S16384x512, .f32⟩
  | 42 => ⟨S16384x512, .i1⟩
  | 43 => ⟨S1x512, .f32⟩
  | 44 => ⟨S16384x512, .f32⟩
  | 45 => ⟨S16384x512, .f32⟩
  | 46 => ⟨S1x512, .f32⟩
  | 47 => ⟨S16384x512, .f32⟩
  | 48 => ⟨S16384x512, .i1⟩
  | 49 => ⟨S1x512, .f32⟩
  | 50 => ⟨S16384x512, .f32⟩
  | 51 => ⟨S16384x512, .f32⟩
  | 52 => ⟨S_, .f32⟩
  | 53 => ⟨S_, .f32⟩
  | 54 => ⟨S16384x512, .f32⟩
  | 55 => ⟨S16384x512, .f32⟩
  | 56 => ⟨S16384x512, .f32⟩
  | 57 => ⟨S1x512, .f32⟩
  | 58 => ⟨S16384x512, .f32⟩
  | 59 => ⟨S16384x512, .f32⟩
  | 60 => ⟨S_, .i32⟩
  | 61 => ⟨S1024, .i32⟩
  | 62 => ⟨S1024, .i1⟩
  | 63 => ⟨S_, .i32⟩
  | 64 => ⟨S1024, .i32⟩
  | 65 => ⟨S1024, .i32⟩
  | 66 => ⟨S1024, .i32⟩
  | 67 => ⟨S1024x1, .i32⟩
  | 68 => ⟨S1, .i32⟩
  | 69 => ⟨S_, .i32⟩
  | 70 => ⟨S1024x1, .i32⟩
  | 71 => ⟨S1024x1, .i1⟩
  | 72 => ⟨S1x1, .i32⟩
  | 73 => ⟨S1024x1, .i32⟩
  | 74 => ⟨S1024x1, .i1⟩
  | 75 => ⟨S1024x1, .i1⟩
  | 76 => ⟨S_, .i1⟩
  | 77 => ⟨S1024, .i1⟩
  | 78 => ⟨S16384x1024, .f32⟩
  | 79 => ⟨S16384x1024, .i1⟩
  | 80 => ⟨S_, .f32⟩
  | 81 => ⟨S16384x1024, .f32⟩
  | 82 => ⟨S16384x1024, .f32⟩
  | 83 => ⟨S1x1024, .f32⟩
  | 84 => ⟨S16384x1024, .f32⟩
  | 85 => ⟨S16384x1024, .i1⟩
  | 86 => ⟨S1x1024, .f32⟩
  | 87 => ⟨S16384x1024, .f32⟩
  | 88 => ⟨S16384x1024, .f32⟩
  | 89 => ⟨S1x1024, .f32⟩
  | 90 => ⟨S16384x1024, .f32⟩
  | 91 => ⟨S16384x1024, .i1⟩
  | 92 => ⟨S1x1024, .f32⟩
  | 93 => ⟨S16384x1024, .f32⟩
  | 94 => ⟨S16384x1024, .f32⟩
  | 95 => ⟨S_, .f32⟩
  | 96 => ⟨S_, .f32⟩
  | 97 => ⟨S16384x1024, .f32⟩
  | 98 => ⟨S16384x1024, .f32⟩
  | 99 => ⟨S16384x1024, .f32⟩
  | 100 => ⟨S1x1024, .f32⟩
  | 101 => ⟨S16384x1024, .f32⟩
  | 102 => ⟨S16384x1024, .f32⟩
  | 103 => ⟨S_, .i32⟩
  | 104 => ⟨S512, .i32⟩
  | 105 => ⟨S512, .i1⟩
  | 106 => ⟨S_, .i32⟩
  | 107 => ⟨S512, .i32⟩
  | 108 => ⟨S512, .i32⟩
  | 109 => ⟨S512, .i32⟩
  | 110 => ⟨S512x1, .i32⟩
  | 111 => ⟨S1, .i32⟩
  | 112 => ⟨S_, .i32⟩
  | 113 => ⟨S512x1, .i32⟩
  | 114 => ⟨S512x1, .i1⟩
  | 115 => ⟨S1x1, .i32⟩
  | 116 => ⟨S512x1, .i32⟩
  | 117 => ⟨S512x1, .i1⟩
  | 118 => ⟨S512x1, .i1⟩
  | 119 => ⟨S_, .i1⟩
  | 120 => ⟨S512, .i1⟩
  | 121 => ⟨S16384x512, .f32⟩
  | 122 => ⟨S16384x512, .i1⟩
  | 123 => ⟨S_, .f32⟩
  | 124 => ⟨S16384x512, .f32⟩
  | 125 => ⟨S16384x512, .f32⟩
  | 126 => ⟨S_, .i32⟩
  | 127 => ⟨S512, .i32⟩
  | _ => ⟨S16384x512, .f32⟩

abbrev hbmTy0_1 (i : Nat) : BufTy := match i % 128 with
  | 0 => ⟨S512, .i1⟩
  | 1 => ⟨S_, .i32⟩
  | 2 => ⟨S512, .i32⟩
  | 3 => ⟨S512, .i32⟩
  | 4 => ⟨S512, .i32⟩
  | 5 => ⟨S512x1, .i32⟩
  | 6 => ⟨S1, .i32⟩
  | 7 => ⟨S_, .i32⟩
  | 8 => ⟨S512x1, .i32⟩
  | 9 => ⟨S512x1, .i1⟩
  | 10 => ⟨S1x1, .i32⟩
  | 11 => ⟨S512x1, .i32⟩
  | 12 => ⟨S512x1, .i1⟩
  | 13 => ⟨S512x1, .i1⟩
  | 14 => ⟨S_, .i1⟩
  | 15 => ⟨S512, .i1⟩
  | 16 => ⟨S16384x512, .f32⟩
  | 17 => ⟨S16384x512, .i1⟩
  | 18 => ⟨S_, .f32⟩
  | 19 => ⟨S16384x512, .f32⟩
  | 20 => ⟨S16384x512, .f32⟩
  | 21 => ⟨S1x512, .f32⟩
  | 22 => ⟨S16384x512, .f32⟩
  | 23 => ⟨S16384x512, .i1⟩
  | 24 => ⟨S1x512, .f32⟩
  | 25 => ⟨S16384x512, .f32⟩
  | 26 => ⟨S16384x512, .i1⟩
  | 27 => ⟨S16384x512, .i1⟩
  | 28 => ⟨S16384x512, .f32⟩
  | 29 => ⟨S1x512, .f32⟩
  | 30 => ⟨S16384x512, .f32⟩
  | 31 => ⟨S16384x512, .f32⟩
  | 32 => ⟨S1x512, .f32⟩
  | 33 => ⟨S16384x512, .f32⟩
  | 34 => ⟨S16384x512, .f32⟩
  | 35 => ⟨S16384x512, .f32⟩
  | 36 => ⟨S1x512, .f32⟩
  | 37 => ⟨S16384x512, .f32⟩
  | 38 => ⟨S16384x512, .f32⟩
  | 39 => ⟨S16384x512, .f32⟩
  | 40 => ⟨S16384x512, .f32⟩
  | 41 => ⟨S_, .f32⟩
  | 42 => ⟨S_, .f32⟩
  | 43 => ⟨S16384x1024, .f32⟩
  | 44 => ⟨S_, .f32⟩
  | 45 => ⟨S_, .f32⟩
  | 46 => ⟨S_, .f32⟩
  | 47 => ⟨S16384x512, .f32⟩
  | 48 => ⟨S_, .f32⟩
  | 49 => ⟨S_, .f32⟩
  | 50 => ⟨S_, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v0 : Ref sig .tc := ⟨.hbm, 39, rfl⟩
abbrev main_v1 : Ref sig .tc := ⟨.hbm, 40, rfl⟩
abbrev main_v2 : Ref sig .tc := ⟨.hbm, 41, rfl⟩
abbrev main_v3 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_cst : Ref sig .tc := ⟨.hbm, 52, rfl⟩
abbrev main_call1_v0 : Ref sig .tc := ⟨.hbm, 53, rfl⟩
abbrev main_call1_v1 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_call3_c : Ref sig .tc := ⟨.hbm, 60, rfl⟩
abbrev main_call3_v0 : Ref sig .tc := ⟨.hbm, 61, rfl⟩
abbrev main_call3_v1 : Ref sig .tc := ⟨.hbm, 62, rfl⟩
abbrev main_call3_c_0 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_call3_v5 : Ref sig .tc := ⟨.hbm, 67, rfl⟩
abbrev main_call3_c_1 : Ref sig .tc := ⟨.hbm, 68, rfl⟩
abbrev main_call3_c_2 : Ref sig .tc := ⟨.hbm, 69, rfl⟩
abbrev main_call3_v6 : Ref sig .tc := ⟨.hbm, 70, rfl⟩
abbrev main_call3_v7 : Ref sig .tc := ⟨.hbm, 71, rfl⟩
abbrev main_call3_v8 : Ref sig .tc := ⟨.hbm, 72, rfl⟩
abbrev main_call3_v9 : Ref sig .tc := ⟨.hbm, 73, rfl⟩
abbrev main_call3_v10 : Ref sig .tc := ⟨.hbm, 74, rfl⟩
abbrev main_call3_v11 : Ref sig .tc := ⟨.hbm, 75, rfl⟩
abbrev main_call3_c_3 : Ref sig .tc := ⟨.hbm, 76, rfl⟩
abbrev main_call3_v12 : Ref sig .tc := ⟨.hbm, 77, rfl⟩
abbrev main_call3_v13 : Ref sig .tc := ⟨.hbm, 78, rfl⟩
abbrev main_call3_v14 : Ref sig .tc := ⟨.hbm, 79, rfl⟩
abbrev main_call3_cst : Ref sig .tc := ⟨.hbm, 80, rfl⟩
abbrev main_call3_v15 : Ref sig .tc := ⟨.hbm, 81, rfl⟩
abbrev main_v18 : Ref sig .tc := ⟨.hbm, 82, rfl⟩
abbrev main_v19 : Ref sig .tc := ⟨.hbm, 83, rfl⟩
abbrev main_v20 : Ref sig .tc := ⟨.hbm, 84, rfl⟩
abbrev main_v21 : Ref sig .tc := ⟨.hbm, 85, rfl⟩
abbrev main_v22 : Ref sig .tc := ⟨.hbm, 86, rfl⟩
abbrev main_v23 : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_cst_0 : Ref sig .tc := ⟨.hbm, 95, rfl⟩
abbrev main_call4_v0 : Ref sig .tc := ⟨.hbm, 96, rfl⟩
abbrev main_call4_v1 : Ref sig .tc := ⟨.hbm, 97, rfl⟩
abbrev main_v31 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_call6_c : Ref sig .tc := ⟨.hbm, 103, rfl⟩
abbrev main_call6_v0 : Ref sig .tc := ⟨.hbm, 104, rfl⟩
abbrev main_call6_v1 : Ref sig .tc := ⟨.hbm, 105, rfl⟩
abbrev main_call6_c_0 : Ref sig .tc := ⟨.hbm, 106, rfl⟩
abbrev main_call6_v2 : Ref sig .tc := ⟨.hbm, 107, rfl⟩
abbrev main_call6_v3 : Ref sig .tc := ⟨.hbm, 108, rfl⟩
abbrev main_call6_v4 : Ref sig .tc := ⟨.hbm, 109, rfl⟩
abbrev main_call6_v5 : Ref sig .tc := ⟨.hbm, 110, rfl⟩
abbrev main_call6_c_1 : Ref sig .tc := ⟨.hbm, 111, rfl⟩
abbrev main_call6_c_2 : Ref sig .tc := ⟨.hbm, 112, rfl⟩
abbrev main_call6_v6 : Ref sig .tc := ⟨.hbm, 113, rfl⟩
abbrev main_call6_v7 : Ref sig .tc := ⟨.hbm, 114, rfl⟩
abbrev main_call6_v8 : Ref sig .tc := ⟨.hbm, 115, rfl⟩
abbrev main_call6_v9 : Ref sig .tc := ⟨.hbm, 116, rfl⟩
abbrev main_call6_v10 : Ref sig .tc := ⟨.hbm, 117, rfl⟩
abbrev main_call6_v11 : Ref sig .tc := ⟨.hbm, 118, rfl⟩
abbrev main_call6_c_3 : Ref sig .tc := ⟨.hbm, 119, rfl⟩
abbrev main_call6_v12 : Ref sig .tc := ⟨.hbm, 120, rfl⟩
abbrev main_call6_v13 : Ref sig .tc := ⟨.hbm, 121, rfl⟩
abbrev main_call6_v14 : Ref sig .tc := ⟨.hbm, 122, rfl⟩
abbrev main_call6_cst : Ref sig .tc := ⟨.hbm, 123, rfl⟩
abbrev main_call6_v15 : Ref sig .tc := ⟨.hbm, 124, rfl⟩
abbrev main_v36 : Ref sig .tc := ⟨.hbm, 125, rfl⟩
abbrev main_call7_c : Ref sig .tc := ⟨.hbm, 126, rfl⟩
abbrev main_call7_v0 : Ref sig .tc := ⟨.hbm, 127, rfl⟩
abbrev main_call7_v1 : Ref sig .tc := ⟨.hbm, 128, rfl⟩
abbrev main_call7_c_0 : Ref sig .tc := ⟨.hbm, 129, rfl⟩
abbrev main_call7_v2 : Ref sig .tc := ⟨.hbm, 130, rfl⟩
abbrev main_call7_v3 : Ref sig .tc := ⟨.hbm, 131, rfl⟩
abbrev main_call7_v4 : Ref sig .tc := ⟨.hbm, 132, rfl⟩
abbrev main_call7_v5 : Ref sig .tc := ⟨.hbm, 133, rfl⟩
abbrev main_call7_c_1 : Ref sig .tc := ⟨.hbm, 134, rfl⟩
abbrev main_call7_c_2 : Ref sig .tc := ⟨.hbm, 135, rfl⟩
abbrev main_call7_v6 : Ref sig .tc := ⟨.hbm, 136, rfl⟩
abbrev main_call7_v7 : Ref sig .tc := ⟨.hbm, 137, rfl⟩
abbrev main_call7_v8 : Ref sig .tc := ⟨.hbm, 138, rfl⟩
abbrev main_call7_v9 : Ref sig .tc := ⟨.hbm, 139, rfl⟩
abbrev main_call7_v10 : Ref sig .tc := ⟨.hbm, 140, rfl⟩
abbrev main_call7_v11 : Ref sig .tc := ⟨.hbm, 141, rfl⟩
abbrev main_call7_c_3 : Ref sig .tc := ⟨.hbm, 142, rfl⟩
abbrev main_call7_v12 : Ref sig .tc := ⟨.hbm, 143, rfl⟩
abbrev main_call7_v13 : Ref sig .tc := ⟨.hbm, 144, rfl⟩
abbrev main_call7_v14 : Ref sig .tc := ⟨.hbm, 145, rfl⟩
abbrev main_call7_cst : Ref sig .tc := ⟨.hbm, 146, rfl⟩
abbrev main_call7_v15 : Ref sig .tc := ⟨.hbm, 147, rfl⟩
abbrev main_v37 : Ref sig .tc := ⟨.hbm, 148, rfl⟩
abbrev main_v38 : Ref sig .tc := ⟨.hbm, 149, rfl⟩
abbrev main_v39 : Ref sig .tc := ⟨.hbm, 150, rfl⟩
abbrev main_v40 : Ref sig .tc := ⟨.hbm, 151, rfl⟩
abbrev main_v41 : Ref sig .tc := ⟨.hbm, 152, rfl⟩
abbrev main_v42 : Ref sig .tc := ⟨.hbm, 153, rfl⟩
abbrev main_v43 : Ref sig .tc := ⟨.hbm, 154, rfl⟩
abbrev main_v44 : Ref sig .tc := ⟨.hbm, 155, rfl⟩
abbrev main_v45 : Ref sig .tc := ⟨.hbm, 156, rfl⟩
abbrev main_v46 : Ref sig .tc := ⟨.hbm, 157, rfl⟩
abbrev main_v47 : Ref sig .tc := ⟨.hbm, 158, rfl⟩
abbrev main_v48 : Ref sig .tc := ⟨.hbm, 159, rfl⟩
abbrev main_v49 : Ref sig .tc := ⟨.hbm, 160, rfl⟩
abbrev main_v50 : Ref sig .tc := ⟨.hbm, 161, rfl⟩
abbrev main_v51 : Ref sig .tc := ⟨.hbm, 162, rfl⟩
abbrev main_v52 : Ref sig .tc := ⟨.hbm, 163, rfl⟩
abbrev main_v53 : Ref sig .tc := ⟨.hbm, 164, rfl⟩
abbrev main_v54 : Ref sig .tc := ⟨.hbm, 165, rfl⟩
abbrev main_v55 : Ref sig .tc := ⟨.hbm, 166, rfl⟩
abbrev main_v56 : Ref sig .tc := ⟨.hbm, 167, rfl⟩
abbrev main_v57 : Ref sig .tc := ⟨.hbm, 168, rfl⟩
abbrev main_cst_1 : Ref sig .tc := ⟨.hbm, 169, rfl⟩
abbrev main_v58 : Ref sig .tc := ⟨.hbm, 170, rfl⟩
abbrev main_v59 : Ref sig .tc := ⟨.hbm, 171, rfl⟩
abbrev main_cst_2 : Ref sig .tc := ⟨.hbm, 172, rfl⟩
abbrev main_v60 : Ref sig .tc := ⟨.hbm, 173, rfl⟩
abbrev main_v61 : Ref sig .tc := ⟨.hbm, 174, rfl⟩
abbrev main_v62 : Ref sig .tc := ⟨.hbm, 175, rfl⟩
abbrev main_cst_3 : Ref sig .tc := ⟨.hbm, 176, rfl⟩
abbrev main_v63 : Ref sig .tc := ⟨.hbm, 177, rfl⟩
abbrev main_v64 : Ref sig .tc := ⟨.hbm, 178, rfl⟩

abbrev nD : Nat := 1
abbrev τ : Topo := Topo.v7x

variable {F : FTy → Type} [FloatOps F]
-- ==== Proof.Common.lean ====
/-
  The launch of the idealized kernel, as the SparseCore launch theorem sees it: the program's definitions, the ghost
  state, the buffers' names, and the words of the tile memories a task reads: sixteen lanes at a place (`ld16`), a gather
  (`gat`).
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the transfers' counters -/

abbrev UH : Type := URounds (GSem nD τ sig) ℕ
abbrev UU : Type := UH × Counters

abbrev EH : Emb UH (MT nD τ sig (HIx 1) (Elt F) ℕ UU ℕ) := embL

/-! ## The buffers -/

abbrev jLoc (d : Dev nD) : Loc nD τ sig := (SparseCore.T d).loc main_v20
abbrev pLoc (d : Dev nD) : Loc nD τ sig := (SparseCore.T d).loc main_v21
abbrev fLoc (d : Dev nD) : Loc nD τ sig := (SparseCore.T d).loc main_v18
abbrev nLoc (d : Dev nD) : Loc nD τ sig := (SparseCore.T d).loc main_v19
abbrev oLoc (d : Dev nD) : Loc nD τ sig := (SparseCore.T d).loc main_v22

abbrev jV : Memref sig .scVector .hbm S67108864 .f32 := Memref.whole main_v20_scv
abbrev pV : Memref sig .scVector .hbm S8388608 .f32 := Memref.whole main_v21_scv
abbrev fV : Memref sig .scVector .hbm S7168 .f32 := Memref.whole main_v18_scv
abbrev nV : Memref sig .scVector .hbm S2560 .i32 := Memref.whole main_v19_scv
abbrev oV : Memref sig .scVector .hbm S512 .f32 := Memref.whole main_v22_scv
abbrev jB : Memref sig .scVector .vmem S32768 .f32 := Memref.whole cc0_scratch0
abbrev pB : Memref sig .scVector .vmem S4096 .f32 := Memref.whole cc0_scratch1
abbrev fB : Memref sig .scVector .vmem S7168 .f32 := Memref.whole cc0_scratch2
abbrev nB : Memref sig .scVector .vmem S2560 .i32 := Memref.whole cc0_scratch3
abbrev aB : Memref sig .scVector .vmem S16 .f32 := Memref.whole cc0_scratch4

abbrev cL (L : grid0.Coords) : Fin τ.nSC := (L 0).castLE hcore0
abbrev sL (L : grid0.Coords) : Fin τ.nSub := (L 1).castLE hsub0
/-- The vector subcore the task at `L` runs on. -/
abbrev thr (d : Dev nD) (L : grid0.Coords) : Thread nD τ := V d (cL L) (sL L)

/-! ## Words by their places -/

/-- The word at place `k` of an array of one axis (places counted around its end). -/
def at1 {n : ℕ} [NeZero n] {α : Type} (f : (⟨1, ![n]⟩ : Shape).Idx → α) (k : ℕ) : α :=
  f (Shape.ofLane (d := ![n]) ⟨k % n, Nat.mod_lt _ (NeZero.pos n)⟩)

/-- An index's own word. -/
theorem at1_eq {n : ℕ} [NeZero n] {α : Type} (f : (⟨1, ![n]⟩ : Shape).Idx → α) (i : (⟨1, ![n]⟩ : Shape).Idx) {k : ℕ}
    (h : (i 0).val = k) : f i = at1 f k := by
  refine congrArg f (funext fun a => ?_)
  obtain rfl : a = 0 := Fin.eq_zero a
  have hk : k < n := h ▸ (i 0).isLt
  exact Fin.ext (h.trans (Nat.mod_eq_of_lt hk).symm)

/-- Sixteen words from place `o`. -/
def ld16 {n : ℕ} [NeZero n] {α : Type} (f : (⟨1, ![n]⟩ : Shape).Idx → α) (o : ℕ) : S16.Idx → α := fun x => at1 f (o + (x 0).val)

/-- The words at the places a vector names. -/
def gat {n : ℕ} [NeZero n] {α : Type} (f : (⟨1, ![n]⟩ : Shape).Idx → α) (v : IVec S16 32) : S16.Idx → α := fun x => at1 f (v x).toNat

theorem loadIdx_eq {n : ℕ} [NeZero n] {e : EltTy} (f : Vec F (⟨1, ![n]⟩ : Shape) e) (v : IVec S16 32)
    (h : ∀ (a : Fin 1) (x : S16.Idx), ((![v] : Fin 1 → IVec S16 32) a x).toNat < (⟨1, ![n]⟩ : Shape).size a) :
    (loadIdx f ![v] h : Vec F S16 e) = gat f v :=
  funext fun _ => at1_eq f _ rfl

/-- A load of sixteen words. -/
theorem read_eq {n : ℕ} [NeZero n] {α : Type} (f : (⟨1, ![n]⟩ : Shape).Idx → α) (off : Fin 1 → ℕ)
    (h : ∀ a, off a + S16.size a ≤ (⟨1, ![n]⟩ : Shape).size a) {o : ℕ} (ho : off = ![o]) :
    (fun x : S16.Idx => f ((Rect.unit (s := (⟨1, ![n]⟩ : Shape)) off S16.size h).idx x)) = ld16 f o := by
  subst ho
  refine funext fun x => at1_eq f _ ?_
  simp [LoadRect.idx, Rect.unit]

end Cert.Proof.KernelIdeal

end
-- ==== Proof.Steps.lean ====
/-
  One trip of each of the three inner loops of a task: sixteen limits against eight rows held in the tile's memory. What a
  trip adds to the running sum is stated by vector steps (`mmStep`, `linStep`) over the words the trip reads.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Common
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- Adding a constant word to words below a bound. -/
theorem chk_of {n : ℕ} (v : IVec S16 32) (c : BitVec 32) (b : ℕ) (hv : ∀ x, (v x).toNat < b) (hc : b + c.toNat ≤ n) (hn : n ≤ 2 ^ 31) :
    ∀ (a : Fin 1) (x : S16.Idx), ((![addi v (broadcast S16 c)] : Fin 1 → IVec S16 32) a x).toNat < (⟨1, ![n]⟩ : Shape).size a := by
  intro a x
  obtain rfl : a = 0 := Fin.eq_zero a
  have h := hv x
  show (v x + c).toNat < n
  rw [BitVec.toNat_add, Nat.mod_eq_of_lt (by omega)]
  omega

variable [FloatOps F]

/-! ## What a trip adds -/

/-- The zero a trip compares with. -/
def zero16 : FVec F S16 .f32 := broadcast S16 (Scalar.ofBits .f32 0x00000000#32)

/-- The two-sided limits' residual of the words `p`. -/
def mmRes (w wm wh p : FVec F S16 .f32) : FVec F S16 .f32 := maximumf (subf (absf (subf (mulf p w) wm)) wh) zero16

/-- The two-sided limits' residuals of the words `p`, squared, onto the sum so far. -/
def mmStep (w wm wh acc p : FVec F S16 .f32) : FVec F S16 .f32 := addf acc (mulf (mmRes w wm wh p) (mmRes w wm wh p))

/-- The linear limits' residual of the reference words `p` and the target words `t`. -/
def linRes (ls lo lw rmin rmax p t : FVec F S16 .f32) : FVec F S16 .f32 :=
  select (andi (cmpf .oge p rmin) (cmpf .ole p rmax)) (subf (subf (mulf p ls) lo) (mulf t lw)) zero16

/-- The linear limits' residuals, squared, onto the sum so far. -/
def linStep (ls lo lw rmin rmax acc p t : FVec F S16 .f32) : FVec F S16 .f32 :=
  addf acc (mulf (linRes ls lo lw rmin rmax p t) (linRes ls lo lw rmin rmax p t))

/-- The eight rows' first places in the joint buffer. -/
def jRows : List (BitVec 32) := [0#32, 4096#32, 8192#32, 12288#32, 16384#32, 20480#32, 24576#32, 28672#32]
/-- The eight rows' first places in the model buffer. -/
def pRows : List (BitVec 32) := [0#32, 512#32, 1024#32, 1536#32, 2048#32, 2560#32, 3072#32, 3584#32]

/-- The words `v` names in the row of `fx` that starts at `c`. -/
def row16 {n : ℕ} [NeZero n] (fx : Vec F (⟨1, ![n]⟩ : Shape) .f32) (v : IVec S16 32) (c : BitVec 32) : FVec F S16 .f32 :=
  gat fx (addi v (broadcast S16 c))

/-- One trip over the joint limits: sixteen limits, eight rows. -/
def jStep (fn : Vec F S2560 .i32) (ff : Vec F S7168 .f32) (fx : Vec F S32768 .f32) (k : ℕ) (acc : FVec F S16 .f32) : FVec F S16 .f32 :=
  jRows.foldl (fun a c => mmStep (ld16 ff (16 * k + 1536)) (ld16 ff (16 * k + 2560)) (ld16 ff (16 * k + 3584)) a
    (row16 fx (ld16 fn (16 * k + 512)) c)) acc

/-- One trip over the model parameters' limits. -/
def pStep (fn : Vec F S2560 .i32) (ff : Vec F S7168 .f32) (fx : Vec F S4096 .f32) (k : ℕ) (acc : FVec F S16 .f32) : FVec F S16 .f32 :=
  pRows.foldl (fun a c => mmStep (ld16 ff (16 * k + 0)) (ld16 ff (16 * k + 512)) (ld16 ff (16 * k + 1024)) a
    (row16 fx (ld16 fn (16 * k + 0)) c)) acc

/-- One trip over the linear limits. -/
def lStep (fn : Vec F S2560 .i32) (ff : Vec F S7168 .f32) (fx : Vec F S4096 .f32) (k : ℕ) (acc : FVec F S16 .f32) : FVec F S16 .f32 :=
  pRows.foldl (fun a c => linStep (ld16 ff (16 * k + 4608)) (ld16 ff (16 * k + 5120)) (ld16 ff (16 * k + 5632)) (ld16 ff (16 * k + 6144))
    (ld16 ff (16 * k + 6656)) a (row16 fx (ld16 fn (16 * k + 1536)) c) (row16 fx (ld16 fn (16 * k + 2048)) c)) acc

/-! ## The trips -/

variable (d : Dev nD) (L : grid0.Coords)

/-- A trip of the joint limits' loop. -/
theorem jbody (k : Fin k0_t2_loop.trips) (acc : FVec F S16 .f32) (fn : Vec F S2560 .i32) (ff : Vec F S7168 .f32) (fx : Vec F S32768 .f32)
    (hv : ∀ x : S16.Idx, (ld16 fn (16 * k + 512) x).toNat < 4096) :
    iprop(((nB).view.loc (thr d L) ↦{fullShare} fn) ∗ ((fB).view.loc (thr d L) ↦{fullShare} ff) ∗ ((jB).view.loc (thr d L) ↦{fullShare} fx))
      ⊢ wp frame (wpE (defs₀ (F := F)) 𝒱₀ (thr d L) none) Set.univ
          (k0_t2_body L jV (Memref.isWhole_whole _) pV (Memref.isWhole_whole _) fV (Memref.isWhole_whole _) nV (Memref.isWhole_whole _)
            oV (Memref.isWhole_whole _) jB (Memref.isWhole_whole _) pB (Memref.isWhole_whole _) fB (Memref.isWhole_whole _) nB (Memref.isWhole_whole _)
            aB (Memref.isWhole_whole _) cc0_scoped0 cc0_scoped1 cc0_scoped2 cc0_scoped3 cc0_scoped4 k acc)
          fun r => (iprop(⌜r = jStep fn ff fx k acc⌝ ∗ ((nB).view.loc (thr d L) ↦{fullShare} fn) ∗ ((fB).view.loc (thr d L) ↦{fullShare} ff)
            ∗ ((jB).view.loc (thr d L) ↦{fullShare} fx)) : sProp 𝕄) := by
  have ej : (jB).view.readAt (Elt F) (LoadRect.whole S32768) fx = fx := Memref.readAt_whole (Elt F) cc0_scratch0 fx
  have e1 : (nB).view.readAt (Elt F) (Rect.unit (s := S2560) (k0_off3 k) S16.size (k0_off3_inb k)).toLoadRect fn = ld16 fn (16 * k + 512) :=
    read_eq fn _ _ (k0_off3_eq k)
  have e2 (r : Fin 3) (o : BitVec 32) (h) (ho : o = BitVec.ofNat 32 (1536 + 1024 * r.val)) :
      (fB).view.readAt (Elt F) (Rect.unit (s := S7168) (k0_off4 k o) S16.size h).toLoadRect ff = ld16 ff (16 * k + (1536 + 1024 * r.val)) := by
    subst ho
    exact read_eq ff _ _ ((k0_off4_eq k r).trans (by congr 1; omega))
  have e3_0 := e2 0 1536#32 (k0_off4_inb k 0) rfl
  have e3_1 := e2 1 2560#32 (k0_off4_inb k 1) rfl
  have e3_2 := e2 2 3584#32 (k0_off4_inb k 2) rfl
  unfold k0_t2_body
  rw [k0_part1_eq_skeleton, k0_part2_eq_skeleton]; unfold k0_part1_skel k0_part2_skel
  unfold SparseCore.vectorLoadIdx
  iintro ⟨Hn, Hf, Hj⟩
  sl_exec (disch := exact chk_of _ _ 4096 hv (by decide) (by decide))
  sl_step
  isplitr
  · ipureintro
    sl_unfold_run_names
    simp only [loadIdx_eq]
    rfl
  isplitl [Hn]; · iexact Hn
  isplitl [Hf]; · iexact Hf
  iexact Hj

/-- A trip of the model parameters' limits' loop. -/
theorem pbody (k : Fin k0_t3_loop.trips) (acc : FVec F S16 .f32) (fn : Vec F S2560 .i32) (ff : Vec F S7168 .f32) (fx : Vec F S4096 .f32)
    (hv : ∀ x : S16.Idx, (ld16 fn (16 * k + 0) x).toNat < 512) :
    iprop(((nB).view.loc (thr d L) ↦{fullShare} fn) ∗ ((fB).view.loc (thr d L) ↦{fullShare} ff) ∗ ((pB).view.loc (thr d L) ↦{fullShare} fx))
      ⊢ wp frame (wpE (defs₀ (F := F)) 𝒱₀ (thr d L) none) Set.univ
          (k0_t3_body L jV (Memref.isWhole_whole _) pV (Memref.isWhole_whole _) fV (Memref.isWhole_whole _) nV (Memref.isWhole_whole _)
            oV (Memref.isWhole_whole _) jB (Memref.isWhole_whole _) pB (Memref.isWhole_whole _) fB (Memref.isWhole_whole _) nB (Memref.isWhole_whole _)
            aB (Memref.isWhole_whole _) cc0_scoped0 cc0_scoped1 cc0_scoped2 cc0_scoped3 cc0_scoped4 k acc)
          fun r => (iprop(⌜r = pStep fn ff fx k acc⌝ ∗ ((nB).view.loc (thr d L) ↦{fullShare} fn) ∗ ((fB).view.loc (thr d L) ↦{fullShare} ff)
            ∗ ((pB).view.loc (thr d L) ↦{fullShare} fx)) : sProp 𝕄) := by
  have ej : (pB).view.readAt (Elt F) (LoadRect.whole S4096) fx = fx := Memref.readAt_whole (Elt F) cc0_scratch1 fx
  have e1 : (nB).view.readAt (Elt F) (Rect.unit (s := S2560) (k0_off5 k) S16.size (k0_off5_inb k)).toLoadRect fn = ld16 fn (16 * k + 0) :=
    read_eq fn _ _ (k0_off5_eq k)
  have e2 (r : Fin 3) (o : BitVec 32) (h) (ho : o = BitVec.ofNat 32 (512 * r.val)) :
      (fB).view.readAt (Elt F) (Rect.unit (s := S7168) (k0_off6 k o) S16.size h).toLoadRect ff = ld16 ff (16 * k + (512 * r.val)) := by
    subst ho
    exact read_eq ff _ _ ((k0_off6_eq k r).trans (by congr 1; omega))
  have e3_0 := e2 0 0#32 (k0_off6_inb k 0) rfl
  have e3_1 := e2 1 512#32 (k0_off6_inb k 1) rfl
  have e3_2 := e2 2 1024#32 (k0_off6_inb k 2) rfl
  unfold k0_t3_body
  rw [k0_part3_eq_skeleton, k0_part4_eq_skeleton]; unfold k0_part3_skel k0_part4_skel
  unfold SparseCore.vectorLoadIdx
  iintro ⟨Hn, Hf, Hj⟩
  sl_exec (disch := exact chk_of _ _ 512 hv (by decide) (by decide))
  sl_step
  isplitr
  · ipureintro
    sl_unfold_run_names
    simp only [loadIdx_eq]
    rfl
  isplitl [Hn]; · iexact Hn
  isplitl [Hf]; · iexact Hf
  iexact Hj

/-- A trip of the linear limits' loop. -/
theorem lbody (k : Fin k0_t4_loop.trips) (acc : FVec F S16 .f32) (fn : Vec F S2560 .i32) (ff : Vec F S7168 .f32) (fx : Vec F S4096 .f32)
    (hv : ∀ x : S16.Idx, (ld16 fn (16 * k + 1536) x).toNat < 512) (hv' : ∀ x : S16.Idx, (ld16 fn (16 * k + 2048) x).toNat < 512) :
    iprop(((nB).view.loc (thr d L) ↦{fullShare} fn) ∗ ((fB).view.loc (thr d L) ↦{fullShare} ff) ∗ ((pB).view.loc (thr d L) ↦{fullShare} fx))
      ⊢ wp frame (wpE (defs₀ (F := F)) 𝒱₀ (thr d L) none) Set.univ
          (k0_t4_body L jV (Memref.isWhole_whole _) pV (Memref.isWhole_whole _) fV (Memref.isWhole_whole _) nV (Memref.isWhole_whole _)
            oV (Memref.isWhole_whole _) jB (Memref.isWhole_whole _) pB (Memref.isWhole_whole _) fB (Memref.isWhole_whole _) nB (Memref.isWhole_whole _)
            aB (Memref.isWhole_whole _) cc0_scoped0 cc0_scoped1 cc0_scoped2 cc0_scoped3 cc0_scoped4 k acc)
          fun r => (iprop(⌜r = lStep fn ff fx k acc⌝ ∗ ((nB).view.loc (thr d L) ↦{fullShare} fn) ∗ ((fB).view.loc (thr d L) ↦{fullShare} ff)
            ∗ ((pB).view.loc (thr d L) ↦{fullShare} fx)) : sProp 𝕄) := by
  have ej : (pB).view.readAt (Elt F) (LoadRect.whole S4096) fx = fx := Memref.readAt_whole (Elt F) cc0_scratch1 fx
  have e1 : (nB).view.readAt (Elt F) (Rect.unit (s := S2560) (k0_off7 k 1536#32) S16.size (k0_off7_inb k 0)).toLoadRect fn = ld16 fn (16 * k + 1536) :=
    read_eq fn _ _ ((k0_off7_eq k 0).trans (by congr 1; simp))
  have e1' : (nB).view.readAt (Elt F) (Rect.unit (s := S2560) (k0_off7 k 2048#32) S16.size (k0_off7_inb k 1)).toLoadRect fn = ld16 fn (16 * k + 2048) :=
    read_eq fn _ _ ((k0_off7_eq k 1).trans (by congr 1; simp; omega))
  have e2 (r : Fin 5) (o : BitVec 32) (h) (ho : o = BitVec.ofNat 32 (4608 + 512 * r.val)) :
      (fB).view.readAt (Elt F) (Rect.unit (s := S7168) (k0_off8 k o) S16.size h).toLoadRect ff = ld16 ff (16 * k + (4608 + 512 * r.val)) := by
    subst ho
    exact read_eq ff _ _ ((k0_off8_eq k r).trans (by congr 1; omega))
  have e3_0 := e2 0 4608#32 (k0_off8_inb k 0) rfl
  have e3_1 := e2 1 5120#32 (k0_off8_inb k 1) rfl
  have e3_2 := e2 2 5632#32 (k0_off8_inb k 2) rfl
  have e3_3 := e2 3 6144#32 (k0_off8_inb k 3) rfl
  have e3_4 := e2 4 6656#32 (k0_off8_inb k 4) rfl
  unfold k0_t4_body
  rw [k0_part5_eq_skeleton, k0_part6_eq_skeleton, k0_part7_eq_skeleton]; unfold k0_part5_skel k0_part6_skel k0_part7_skel
  unfold SparseCore.vectorLoadIdx
  iintro ⟨Hn, Hf, Hj⟩
  sl_exec (disch := first | sl_exact chk_of _ _ 512 hv (by decide) (by decide) | sl_exact chk_of _ _ 512 hv' (by decide) (by decide) | exact chk_of _ _ 512 hv (by decide) (by decide) | exact chk_of _ _ 512 hv' (by decide) (by decide))
  sl_step
  isplitr
  · ipureintro
    sl_unfold_run_names
    simp only [loadIdx_eq]
    rfl
  isplitl [Hn]; · iexact Hn
  isplitl [Hf]; · iexact Hf
  iexact Hj

end Cert.Proof.KernelIdeal

end
-- ==== Proof.Tile.lean ====
/-
  A task: what it leaves in its sixteen words of the result (`taskVal`), and its run, the eight-row groups in a counted loop
  whose invariant holds the running sums.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Steps
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- `n` trips of a loop from `a`. -/
def trips {α : Type} (f : ℕ → α → α) (a : α) : ℕ → α
  | 0 => a
  | n + 1 => f n (trips f a n)

/-- The block of `n` words from place `o`. -/
def blk {N n : ℕ} [NeZero N] {α : Type} (f : (⟨1, ![N]⟩ : Shape).Idx → α) (o : ℕ) : (⟨1, ![n]⟩ : Shape).Idx → α :=
  fun i => at1 f (o + (i 0).val)

/-- Every index of the packed table names a column: of the joint parameters between places 512 and 1535, of the model
    parameters elsewhere. -/
def InRange (fn : Vec F S2560 .i32) : Prop :=
  (∀ k, 512 ≤ k → k < 1536 → (at1 fn k : BitVec 32).toNat < 4096)
    ∧ (∀ k, (k < 512 ∨ 1536 ≤ k ∧ k < 2560) → (at1 fn k : BitVec 32).toNat < 512)

variable [FloatOps F]

/-- One group of eight rows: the three loops. -/
def gStep (fn : Vec F S2560 .i32) (ff : Vec F S7168 .f32) (fj : Vec F S32768 .f32) (fp : Vec F S4096 .f32) (acc : FVec F S16 .f32) : FVec F S16 .f32 :=
  trips (lStep fn ff fp) (trips (pStep fn ff fp) (trips (jStep fn ff fj) acc 64) 32) 32

/-- The first place of group `g`'s rows in the joint parameters, for task `w`, and in the model parameters. -/
def jOff (w g : ℕ) : ℕ := (512 * w + 8 * g) * 4096
def pOff (w g : ℕ) : ℕ := (512 * w + 8 * g) * 512

/-- The task's number. -/
def wid (L : grid0.Coords) : ℕ := 2 * (L 1).val + (L 0).val

/-- What task `w` leaves in its sixteen words, from the flat joint and model parameters and the two packed tables. -/
def taskVal (mj : Vec F S67108864 .f32) (mp : Vec F S8388608 .f32) (mf : Vec F S7168 .f32) (mn : Vec F S2560 .i32) (w : ℕ) : FVec F S16 .f32 :=
  trips (fun g acc => gStep mn mf (blk mj (jOff w g)) (blk mp (pOff w g)) acc) zero16 64

variable (d : Dev nD) (L : grid0.Coords)

/-- A loop's invariant: the running sums, the tables and one block of parameters. -/
def invJ (fn : Vec F S2560 .i32) (ff : Vec F S7168 .f32) (fj : Vec F S32768 .f32) (a : FVec F S16 .f32) (k : ℕ) (acc : FVec F S16 .f32) : sProp 𝕄 :=
  iprop(⌜acc = trips (jStep fn ff fj) a k⌝ ∗ ((nB).view.loc (thr d L) ↦{fullShare} fn) ∗ ((fB).view.loc (thr d L) ↦{fullShare} ff)
    ∗ ((jB).view.loc (thr d L) ↦{fullShare} fj))
def invP (fn : Vec F S2560 .i32) (ff : Vec F S7168 .f32) (fp : Vec F S4096 .f32) (f : ℕ → FVec F S16 .f32 → FVec F S16 .f32) (a : FVec F S16 .f32) (k : ℕ)
    (acc : FVec F S16 .f32) : sProp 𝕄 :=
  iprop(⌜acc = trips f a k⌝ ∗ ((nB).view.loc (thr d L) ↦{fullShare} fn) ∗ ((fB).view.loc (thr d L) ↦{fullShare} ff)
    ∗ ((pB).view.loc (thr d L) ↦{fullShare} fp))

/-- The block a copy leaves in the joint buffer. -/
theorem jland (g : Fin k0_t1_loop.trips) (mj : Vec F S67108864 .f32) (f0 : Vec F S32768 .f32) :
    View.write (Elt F) (jB).view f0 (((jV).slice (Rect.unit (s := S67108864) (k0_off1 L g) S32768.size (k0_off1_inb L g)) (fun _ => rfl)).view.read (Elt F) mj) Finset.univ
      = (blk mj (jOff (wid L) g) : Vec F S32768 .f32) := by
  rw [View.write_whole_univ]
  refine funext fun i => at1_eq mj _ ?_
  refine (congrArg (· + 1 * (i 0).val) (congrFun (k0_off1_eq L g) 0)).trans ?_
  show 4194304 * (L 1).val + 2097152 * (L 0).val + 32768 * g.val + 1 * (i 0).val = (512 * (2 * (L 1).val + (L 0).val) + 8 * g.val) * 4096 + (i 0).val
  omega

/-- The block a copy leaves in the model buffer. -/
theorem pland (g : Fin k0_t1_loop.trips) (mp : Vec F S8388608 .f32) (f0 : Vec F S4096 .f32) :
    View.write (Elt F) (pB).view f0 (((pV).slice (Rect.unit (s := S8388608) (k0_off2 L g) S4096.size (k0_off2_inb L g)) (fun _ => rfl)).view.read (Elt F) mp) Finset.univ
      = (blk mp (pOff (wid L) g) : Vec F S4096 .f32) := by
  rw [View.write_whole_univ]
  refine funext fun i => at1_eq mp _ ?_
  refine (congrArg (· + 1 * (i 0).val) (congrFun (k0_off2_eq L g) 0)).trans ?_
  show 524288 * (L 1).val + 262144 * (L 0).val + 4096 * g.val + 1 * (i 0).val = (512 * (2 * (L 1).val + (L 0).val) + 8 * g.val) * 512 + (i 0).val
  omega

theorem InRange.joint {mn : Vec F S2560 .i32} (hn : InRange mn) (k : Fin k0_t2_loop.trips) (x : S16.Idx) :
    (ld16 mn (16 * k + 512) x : BitVec 32).toNat < 4096 := by
  have hk : k.val < 64 := k.isLt
  have hx : (x 0).val < 16 := (x 0).isLt
  exact hn.1 _ (by omega) (by omega)

theorem InRange.low {mn : Vec F S2560 .i32} (hn : InRange mn) (k : Fin k0_t3_loop.trips) (x : S16.Idx) :
    (ld16 mn (16 * k + 0) x : BitVec 32).toNat < 512 := by
  have hk : k.val < 32 := k.isLt
  have hx : (x 0).val < 16 := (x 0).isLt
  exact hn.2 _ (.inl (by omega))
theorem InRange.ref {mn : Vec F S2560 .i32} (hn : InRange mn) (k : Fin k0_t4_loop.trips) (x : S16.Idx) :
    (ld16 mn (16 * k + 1536) x : BitVec 32).toNat < 512 := by
  have hk : k.val < 32 := k.isLt
  have hx : (x 0).val < 16 := (x 0).isLt
  exact hn.2 _ (.inr ⟨by omega, by omega⟩)
theorem InRange.target {mn : Vec F S2560 .i32} (hn : InRange mn) (k : Fin k0_t4_loop.trips) (x : S16.Idx) :
    (ld16 mn (16 * k + 2048) x : BitVec 32).toNat < 512 := by
  have hk : k.val < 32 := k.isLt
  have hx : (x 0).val < 16 := (x 0).isLt
  exact hn.2 _ (.inr ⟨by omega, by omega⟩)

/-- A group of the task at `L`. -/
theorem gbody (g : Fin k0_t1_loop.trips) (acc : FVec F S16 .f32) (mj : Vec F S67108864 .f32) (mp : Vec F S8388608 .f32) (mf : Vec F S7168 .f32)
    (mn : Vec F S2560 .i32) (hn : InRange mn) (q : PosShare TreeShare) (O : CellTallies nD τ sig (HIx 1)) (W : Waits sig (HIx 1)) :
    iprop(Transfers.MayWaits (thr d L) (none : HIx 1) O
        ∗ ((jV).view.loc (thr d L) ↦{q} mj) ∗ ((pV).view.loc (thr d L) ↦{q} mp)
        ∗ ((nB).view.loc (thr d L) ↦{fullShare} mn) ∗ ((fB).view.loc (thr d L) ↦{fullShare} mf)
        ∗ (∃ f, (jB).view.loc (thr d L) ↦{fullShare} f) ∗ (∃ f, (pB).view.loc (thr d L) ↦{fullShare} f)
        ∗ semVal (thr d L, SemLoc.dma cc0_scoped2.sem) 0 ∗ semVal (thr d L, SemLoc.dma cc0_scoped3.sem) 0
        ∗ ∃ W', ⌜∀ p ∈ W', p ∈ W ∨ p.2 = none⌝ ∗ owes (thr d L) O W')
      ⊢ wp frame (wpE (defs₀ (F := F)) 𝒱₀ (thr d L) none) Set.univ
          (k0_t1_body L jV (Memref.isWhole_whole _) pV (Memref.isWhole_whole _) fV (Memref.isWhole_whole _) nV (Memref.isWhole_whole _)
            oV (Memref.isWhole_whole _) jB (Memref.isWhole_whole _) pB (Memref.isWhole_whole _) fB (Memref.isWhole_whole _) nB (Memref.isWhole_whole _)
            aB (Memref.isWhole_whole _) cc0_scoped0 cc0_scoped1 cc0_scoped2 cc0_scoped3 cc0_scoped4 g acc)
          fun r => (iprop(⌜r = gStep mn mf (blk mj (jOff (wid L) g)) (blk mp (pOff (wid L) g)) acc⌝
            ∗ Transfers.MayWaits (thr d L) (none : HIx 1) O
            ∗ ((jV).view.loc (thr d L) ↦{q} mj) ∗ ((pV).view.loc (thr d L) ↦{q} mp)
            ∗ ((nB).view.loc (thr d L) ↦{fullShare} mn) ∗ ((fB).view.loc (thr d L) ↦{fullShare} mf)
            ∗ (∃ f, (jB).view.loc (thr d L) ↦{fullShare} f) ∗ (∃ f, (pB).view.loc (thr d L) ↦{fullShare} f)
            ∗ semVal (thr d L, SemLoc.dma cc0_scoped2.sem) 0 ∗ semVal (thr d L, SemLoc.dma cc0_scoped3.sem) 0
            ∗ ∃ W', ⌜∀ p ∈ W', p ∈ W ∨ p.2 = none⌝ ∗ owes (thr d L) O W') : sProp 𝕄) := by
  unfold k0_t1_body
  iintro ⟨Hmw, Hj, Hp, Hn, Hf, ⟨%fj, Hjb⟩, ⟨%fp, Hpb⟩, Hs2, Hs3, %W', %hW', HO⟩
  sl_exec (disch := first | exact View.amount_pos _ _ (show 0 < S32768.numel by decide) | exact View.amount_pos _ _ (show 0 < S4096.numel by decide))
  rw [show View.write (Elt F) (jB).view fj (gbody.sl.dma0 L g mj) Finset.univ = blk mj (jOff (wid L) g) from jland L g mj fj,
    show View.write (Elt F) (pB).view fp (gbody.sl.dma0_1 L g mp) Finset.univ = blk mp (pOff (wid L) g) from pland L g mp fp]
  sl_for (invJ d L mn mf (blk mj (jOff (wid L) g)) acc) $$ [Hn Hf Hjb]
  case region =>
    intro k a
    unfold invJ
    iintro ⟨%ha, Hn, Hf, Hjb⟩
    subst ha
    iapply (jbody d L k _ mn mf _ (InRange.joint hn k))
    isplitl [Hn]; · iexact Hn
    isplitl [Hf]; · iexact Hf
    iexact Hjb
  · unfold invJ
    isplitr; · ipureintro; rfl
    isplitl [Hn]; · iexact Hn
    isplitl [Hf]; · iexact Hf
    iexact Hjb
  iintro %a1 HI
  unfold invJ
  icases HI with ⟨%ha, Hn, Hf, Hjb⟩
  sl_for (invP d L mn mf (blk mp (pOff (wid L) g)) (pStep mn mf (blk mp (pOff (wid L) g))) a1) $$ [Hn Hf Hpb]
  case region =>
    intro k a
    unfold invP
    iintro ⟨%ha, Hn, Hf, Hpb⟩
    subst ha
    iapply (pbody d L k _ mn mf _ (hn.low k))
    isplitl [Hn]; · iexact Hn
    isplitl [Hf]; · iexact Hf
    iexact Hpb
  · unfold invP
    isplitr; · ipureintro; rfl
    isplitl [Hn]; · iexact Hn
    isplitl [Hf]; · iexact Hf
    iexact Hpb
  iintro %a2 HI
  unfold invP
  icases HI with ⟨%ha2, Hn, Hf, Hpb⟩
  sl_for (invP d L mn mf (blk mp (pOff (wid L) g)) (lStep mn mf (blk mp (pOff (wid L) g))) a2) $$ [Hn Hf Hpb]
  case region =>
    intro k a
    unfold invP
    iintro ⟨%ha, Hn, Hf, Hpb⟩
    subst ha
    iapply (lbody d L k _ mn mf _ (hn.ref k) (hn.target k))
    isplitl [Hn]; · iexact Hn
    isplitl [Hf]; · iexact Hf
    iexact Hpb
  · unfold invP
    isplitr; · ipureintro; rfl
    isplitl [Hn]; · iexact Hn
    isplitl [Hf]; · iexact Hf
    iexact Hpb
  iintro %a3 HI
  unfold invP
  icases HI with ⟨%ha3, Hn, Hf, Hpb⟩
  sl_exec
  sl_step
  isplitr
  · ipureintro; subst ha3 ha2 ha; rfl
  isplitl [Hmw]; · iexact Hmw
  isplitl [Hj]; · iexact Hj
  isplitl [Hp]; · iexact Hp
  isplitl [Hn]; · iexact Hn
  isplitl [Hf]; · iexact Hf
  isplitl [Hjb]; · iexists _; iexact Hjb
  isplitl [Hpb]; · iexists _; iexact Hpb
  isplitl [Hs2]; · iexact Hs2
  isplitl [Hs3]; · iexact Hs3
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

end Cert.Proof.KernelIdeal

end
-- ==== Proof.Task.lean ====
/-
  The task on a vector subcore: the two tables fetched, the groups, the sums stored and written out to the task's sixteen
  words of the result.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.VecWindow
public import proofs.«01_k».proof.Proof.Tile
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The result's words -/

theorem odiv : 32 ∣ S512.size 0 := ⟨16, rfl⟩
abbrev orow (w : Fin 32) : Rect S512 := Rect.part (s := S512) (a₀ := 0) odiv w
/-- Task `w`'s sixteen words. -/
abbrev oSet (w : Fin 32) : Finset S512.Idx := ((oV).view.slice (orow w)).set

variable (d : Dev nD) (L : grid0.Coords)

theorem wid_lt : wid L < 32 := by
  have h0 : (L 0).val < 2 := (L 0).isLt
  have h1 : (L 1).val < 16 := (L 1).isLt
  unfold wid; omega
/-- The task's number among 32. -/
abbrev tk : Fin 32 := ⟨wid L, wid_lt L⟩

abbrev orowK : Rect S512 := Rect.unit (s := S512) (k0_off9 L) S16.size (k0_off9_inb L)
/-- The task's words as it addresses them. -/
abbrev oK : Memref sig .scVector .hbm S16 .f32 := (oV).slice (orowK L) (fun _ => rfl)

theorem orowK_eq : orowK L = orow (tk L) := by
  unfold orowK orow Rect.part Rect.block
  congr 1 <;> funext a
  · rw [k0_off9_eq]
    match a with
    | 0 => simp [Shape.partIx, Shape.partSize, wid]; omega
  · match a with
    | 0 => simp [Shape.partSize]

theorem set_oK : (oK L).view.set = oSet (tk L) := by
  show ((oV).view.slice (orowK L)).set = ((oV).view.slice (orow (tk L))).set
  exact orowK_eq L ▸ rfl

theorem pts_oK (f : Buf (Elt F) (oLoc d)) :
    ((oK L).view.loc (thr d L) ↦[(oK L).view.set]{fullShare} f : sProp 𝕄) = oLoc d ↦[oSet (tk L)]{fullShare} f := by
  rw [set_oK]

/-! ## The subcore's cells and buffers -/

abbrev cell0 : GSem nD τ sig := (thr d L, .dma cc0_scoped0.sem)
abbrev cell1 : GSem nD τ sig := (thr d L, .dma cc0_scoped1.sem)
abbrev cell2 : GSem nD τ sig := (thr d L, .dma cc0_scoped2.sem)
abbrev cell3 : GSem nD τ sig := (thr d L, .dma cc0_scoped3.sem)
abbrev cell4 : GSem nD τ sig := (thr d L, .dma cc0_scoped4.sem)

theorem mem_cell (s : DmaSem sig) (h : (SemLoc.dma s : SemLoc sig).isScoped .scVector = true) : ((thr d L, .dma s) : GSem nD τ sig) ∈ ownCells (thr d L) :=
  mem_ownCells.mpr ⟨rfl, h⟩

theorem ownSems0_V :
    (ownSems0 (thr d L) : sProp 𝕄)
      = iprop(semVal (cell0 d L) 0 ∗ semVal (cell1 d L) 0 ∗ semVal (cell2 d L) 0 ∗ semVal (cell3 d L) 0 ∗ semVal (cell4 d L) 0
          ∗ bigSep ((((((ownCells (thr d L)).erase (cell0 d L)).erase (cell1 d L)).erase (cell2 d L)).erase (cell3 d L)).erase (cell4 d L)) fun g => semVal g 0) := by
  unfold SparseCore.Cfg.ownSems0
  have m0 : cell0 d L ∈ ownCells (thr d L) := mem_cell d L _ (by decide)
  have m1 : cell1 d L ∈ ownCells (thr d L) := mem_cell d L _ (by decide)
  have m2 : cell2 d L ∈ ownCells (thr d L) := mem_cell d L _ (by decide)
  have m3 : cell3 d L ∈ ownCells (thr d L) := mem_cell d L _ (by decide)
  have m4 : cell4 d L ∈ ownCells (thr d L) := mem_cell d L _ (by decide)
  have ne : ∀ s t : DmaSem sig, s ≠ t → ((thr d L, .dma s) : GSem nD τ sig) ≠ (thr d L, .dma t) := fun s t h e => h (SemLoc.dma.inj (Prod.mk.inj e).2)
  rw [SparseCore.bigSep_erase' m0,
    SparseCore.bigSep_erase' (Finset.mem_erase.mpr ⟨ne _ _ (by decide), m1⟩),
    SparseCore.bigSep_erase' (Finset.mem_erase.mpr ⟨ne _ _ (by decide), Finset.mem_erase.mpr ⟨ne _ _ (by decide), m2⟩⟩),
    SparseCore.bigSep_erase' (Finset.mem_erase.mpr ⟨ne _ _ (by decide), Finset.mem_erase.mpr ⟨ne _ _ (by decide), Finset.mem_erase.mpr ⟨ne _ _ (by decide), m3⟩⟩⟩),
    SparseCore.bigSep_erase' (Finset.mem_erase.mpr ⟨ne _ _ (by decide), Finset.mem_erase.mpr ⟨ne _ _ (by decide), Finset.mem_erase.mpr ⟨ne _ _ (by decide),
      Finset.mem_erase.mpr ⟨ne _ _ (by decide), m4⟩⟩⟩⟩)]

abbrev sref (b : Ref sig .scVector) : DevRef τ sig := (Proc.scVector (cL L) (sL L)).devRef b

/-- The five scratch buffers are among the subcore's own. -/
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f)
          ∗ (∃ f, (thr d L).loc cc0_scratch3 ↦{fullShare} f) ∗ (∃ f, (thr d L).loc cc0_scratch4 ↦{fullShare} f)
          ∗ bigSep ((((((ownRefs (τ := τ) (.scVector (cL L) (sL L))).erase (sref L cc0_scratch0)).erase (sref L cc0_scratch1)).erase (sref L cc0_scratch2)).erase
              (sref L cc0_scratch3)).erase (sref L cc0_scratch4))
              fun b => iprop(∃ f, ((d, b) : Loc nD τ sig) ↦{fullShare} f)) := by
  unfold SparseCore.Cfg.ownBufs
  have m0 : sref L cc0_scratch0 ∈ ownRefs (τ := τ) (.scVector (cL L) (sL L)) := SparseCore.Cfg.mem_ownRefs_of_owner (p := Proc.scVector (cL L) (sL L)) rfl
  have m1 : sref L cc0_scratch1 ∈ ownRefs (τ := τ) (.scVector (cL L) (sL L)) := SparseCore.Cfg.mem_ownRefs_of_owner (p := Proc.scVector (cL L) (sL L)) rfl
  have m2 : sref L cc0_scratch2 ∈ ownRefs (τ := τ) (.scVector (cL L) (sL L)) := SparseCore.Cfg.mem_ownRefs_of_owner (p := Proc.scVector (cL L) (sL L)) rfl
  have m3 : sref L cc0_scratch3 ∈ ownRefs (τ := τ) (.scVector (cL L) (sL L)) := SparseCore.Cfg.mem_ownRefs_of_owner (p := Proc.scVector (cL L) (sL L)) rfl
  have m4 : sref L cc0_scratch4 ∈ ownRefs (τ := τ) (.scVector (cL L) (sL L)) := SparseCore.Cfg.mem_ownRefs_of_owner (p := Proc.scVector (cL L) (sL L)) rfl
  have ne : ∀ s t : Ref sig .scVector, s ≠ t → sref L s ≠ sref L t := fun s t h e => h (Proc.devRef_injective _ e)
  refine (SparseCore.bigSep_erase' m0).trans ?_
  rw [SparseCore.bigSep_erase' (Finset.mem_erase.mpr ⟨ne _ _ (by decide), m1⟩),
    SparseCore.bigSep_erase' (Finset.mem_erase.mpr ⟨ne _ _ (by decide), Finset.mem_erase.mpr ⟨ne _ _ (by decide), m2⟩⟩),
    SparseCore.bigSep_erase' (Finset.mem_erase.mpr ⟨ne _ _ (by decide), Finset.mem_erase.mpr ⟨ne _ _ (by decide), Finset.mem_erase.mpr ⟨ne _ _ (by decide), m3⟩⟩⟩),
    SparseCore.bigSep_erase' (Finset.mem_erase.mpr ⟨ne _ _ (by decide), Finset.mem_erase.mpr ⟨ne _ _ (by decide), Finset.mem_erase.mpr ⟨ne _ _ (by decide),
      Finset.mem_erase.mpr ⟨ne _ _ (by decide), m4⟩⟩⟩⟩)]

variable [FloatOps F]

/-- The array of partial sums the tasks leave. -/
def outVal (mj : Vec F S67108864 .f32) (mp : Vec F S8388608 .f32) (mf : Vec F S7168 .f32) (mn : Vec F S2560 .i32) : Vec F S512 .f32 :=
  fun i => at1 (taskVal mj mp mf mn ((i 0).val / 16)) (i 0).val

/-- The groups' invariant: the running sums, the arrays, the tables, the blocks at some contents, the two cells. -/
def invG (mj : Vec F S67108864 .f32) (mp : Vec F S8388608 .f32) (mf : Vec F S7168 .f32)
    (mn : Vec F S2560 .i32) (q : PosShare TreeShare) (O : CellTallies nD τ sig (HIx 1)) (W : Waits sig (HIx 1)) (g : ℕ) (acc : FVec F S16 .f32) : sProp 𝕄 :=
  iprop(⌜acc = trips (fun g acc => gStep mn mf (blk mj (jOff (wid L) g)) (blk mp (pOff (wid L) g)) acc) zero16 g⌝
    ∗ Transfers.MayWaits (thr d L) (none : HIx 1) O
    ∗ ((jV).view.loc (thr d L) ↦{q} mj) ∗ ((pV).view.loc (thr d L) ↦{q} mp)
    ∗ ((nB).view.loc (thr d L) ↦{fullShare} mn) ∗ ((fB).view.loc (thr d L) ↦{fullShare} mf)
    ∗ (∃ f, (jB).view.loc (thr d L) ↦{fullShare} f) ∗ (∃ f, (pB).view.loc (thr d L) ↦{fullShare} f)
    ∗ semVal (thr d L, SemLoc.dma cc0_scoped2.sem) 0 ∗ semVal (thr d L, SemLoc.dma cc0_scoped3.sem) 0
    ∗ ∃ W', ⌜∀ p ∈ W', p ∈ W ∨ p.2 = none⌝ ∗ owes (thr d L) O W')

/-- What a task holds of the arrays in HBM: a share of each input, its words of the result at the contents `f`. -/
abbrev tilePts (mj : Vec F S67108864 .f32) (mp : Vec F S8388608 .f32) (mf : Vec F S7168 .f32) (mn : Vec F S2560 .i32) (d : Dev nD) (q : PosShare TreeShare)
    (w : Fin 32) (f : Buf (Elt F) (oLoc d)) : sProp 𝕄 :=
  iprop((jLoc d ↦{q} mj) ∗ (pLoc d ↦{q} mp) ∗ (fLoc d ↦{q} mf) ∗ (nLoc d ↦{q} mn) ∗ (oLoc d ↦[oSet w]{fullShare} f))

/-- The sums stored in the task's buffer are what its write-out reads. -/
theorem dland (fa : Vec F S16 .f32) (a : FVec F S16 .f32) :
    (aB).view.read (Elt F) ((aB).view.writes (Elt F) fa [⟨Rect.unit (s := S16) ![0] S16.size inb_S16_S16_0, a⟩]) = a :=
  View.read_writes_full (aB).view fa inb_S16_S16_0 a []

/-- What the write-out leaves in the task's words. -/
theorem oland (mj : Vec F S67108864 .f32) (mp : Vec F S8388608 .f32) (mf : Vec F S7168 .f32) (mn : Vec F S2560 .i32) (a w : FVec F S16 .f32)
    (f₀ : Vec F S512 .f32) (ha : a = taskVal mj mp mf mn (wid L)) (hw : w = a) :
    ∀ i ∈ (oK L).view.set, (oK L).view.writes (Elt F) f₀ [⟨Rect.whole S16, w⟩] i = outVal mj mp mf mn i := by
  intro i hi
  subst hw
  obtain ⟨x, -, rfl⟩ := Finset.mem_map.mp hi
  have h1 := View.read_writes_cons_emb (oK L).view (Val := Elt F) f₀ (Rect.whole S16) w [] x
  have hv : (((oK L).view.emb x) 0).val = 16 * wid L + (x 0).val := by
    refine (congrArg (· + 1 * (x 0).val) (congrFun (k0_off9_eq L) 0)).trans ?_
    show 32 * (L 1).val + 16 * (L 0).val + 1 * (x 0).val = 16 * (2 * (L 1).val + (L 0).val) + (x 0).val
    omega
  have hx : (x 0).val < 16 := (x 0).isLt
  rw [show (Rect.whole S16).emb x = x from
    funext fun b => Fin.ext (by show 0 + 1 * (x b).val = (x b).val; omega)] at h1
  refine ((cast_eq _ _).symm.trans (View.read_apply _ _).symm).trans (h1.trans ?_)
  unfold outVal
  rw [hv, show (16 * wid L + (x 0).val) / 16 = wid L by omega, ← ha, at1_eq w x rfl]
  have e : (16 * wid L + (x 0).val) % 16 = (x 0).val % 16 := by omega
  simp only [at1, e]

set_option maxHeartbeats 4000000 in
/-- The task on vector subcore `L` of device `d`. -/
theorem tile_body (mj : Vec F S67108864 .f32) (mp : Vec F S8388608 .f32) (mf : Vec F S7168 .f32) (mn : Vec F S2560 .i32) (hn : InRange mn)
    (q : PosShare TreeShare) (f₀ : Buf (Elt F) (oLoc d)) (O : CellTallies nD τ sig (HIx 1)) (W : Waits sig (HIx 1)) (hO : ∀ g, O g none = 0) :
    iprop(levAts (K (F := F)).L (K (F := F)).lev ∗ emp ∗ tilePts mj mp mf mn d q (tk L) f₀
        ∗ scopedBufs (thr d L) ∗ scopedSems0 (thr d L) ∗ owes (thr d L) O W)
      ⊢ wp frame (wpE (defs₀ (F := F)) 𝒱₀ (thr d L) none) Set.univ
          (cc0_k L jV (Memref.isWhole_whole _) pV (Memref.isWhole_whole _) fV (Memref.isWhole_whole _) nV (Memref.isWhole_whole _)
            oV (Memref.isWhole_whole _) jB (Memref.isWhole_whole _) pB (Memref.isWhole_whole _) fB (Memref.isWhole_whole _) nB (Memref.isWhole_whole _)
            aB (Memref.isWhole_whole _) cc0_scoped0 cc0_scoped1 cc0_scoped2 cc0_scoped3 cc0_scoped4)
          fun _ => (iprop(tilePts mj mp mf mn d q (tk L) (outVal mj mp mf mn)
            ∗ scopedBufs (thr d L) ∗ scopedSems0 (thr d L)
            ∗ ∃ W', ⌜∀ p ∈ W', p ∈ W ∨ p.2 = none⌝ ∗ owes (thr d L) O W') : sProp 𝕄) := by
  rw [cc0_k_eq_skeleton]; unfold cc0_k_skel
  rw [(K (F := F)).scopedBufs_V facts d (cL L) (sL L), SparseCore.Cfg.scopedSems0_V (Val := Elt F) d (cL L) (sL L), ownSems0_V, ownBufs_V]
  iintro ⟨#Hlv, -, ⟨Hj, Hp, Hf, Hn, Ho⟩, ⟨⟨%fj, Hjb⟩, ⟨%fp, Hpb⟩, ⟨%ff, Hfb⟩, ⟨%fn, Hnb⟩, ⟨%fa, Hab⟩, Hbufs⟩, ⟨Hs0, Hs1, Hs2, Hs3, Hs4, Hsems⟩, HO⟩
  ihave Hmw := (show levAts (K (F := F)).L (K (F := F)).lev ⊢ Transfers.MayWaits (thr d L) (default : HIx 1) O from
    (K (F := F)).mayWaits_none (thr := thr d L) hO) $$ Hlv
  ihave Ho := (Entails.of_eq (pts_oK (F := F) d L _).symm) $$ Ho
  ihave Hj := (Entails.of_eq (show (jLoc d ↦{q} mj : sProp 𝕄) = ((jV).view.loc (thr d L) ↦{q} mj) from rfl)) $$ Hj
  ihave Hp := (Entails.of_eq (show (pLoc d ↦{q} mp : sProp 𝕄) = ((pV).view.loc (thr d L) ↦{q} mp) from rfl)) $$ Hp
  ihave Hf := (Entails.of_eq (show (fLoc d ↦{q} mf : sProp 𝕄) = ((fV).view.loc (thr d L) ↦{q} mf) from rfl)) $$ Hf
  ihave Hn := (Entails.of_eq (show (nLoc d ↦{q} mn : sProp 𝕄) = ((nV).view.loc (thr d L) ↦{q} mn) from rfl)) $$ Hn
  ihave Hjb := (Entails.of_eq (show ((thr d L).loc cc0_scratch0 ↦{fullShare} fj : sProp 𝕄) = ((jB).view.loc (thr d L) ↦{fullShare} fj) from rfl)) $$ Hjb
  ihave Hpb := (Entails.of_eq (show ((thr d L).loc cc0_scratch1 ↦{fullShare} fp : sProp 𝕄) = ((pB).view.loc (thr d L) ↦{fullShare} fp) from rfl)) $$ Hpb
  ihave Hfb := (Entails.of_eq (show ((thr d L).loc cc0_scratch2 ↦{fullShare} ff : sProp 𝕄) = ((fB).view.loc (thr d L) ↦{fullShare} ff) from rfl)) $$ Hfb
  ihave Hnb := (Entails.of_eq (show ((thr d L).loc cc0_scratch3 ↦{fullShare} fn : sProp 𝕄) = ((nB).view.loc (thr d L) ↦{fullShare} fn) from rfl)) $$ Hnb
  ihave Hab := (Entails.of_eq (show ((thr d L).loc cc0_scratch4 ↦{fullShare} fa : sProp 𝕄) = ((aB).view.loc (thr d L) ↦{fullShare} fa) from rfl)) $$ Hab
  sl_exec (disch := first | exact View.amount_pos _ _ (show 0 < S7168.numel by decide) | exact View.amount_pos _ _ (show 0 < S2560.numel by decide))
  rw [show View.write (Elt F) (fB).view ff (tile_body.sl.dma0 mf) Finset.univ = mf from View.write_whole_univ ..,
    show View.write (Elt F) (nB).view fn (tile_body.sl.dma0_1 mn) Finset.univ = mn from View.write_whole_univ ..]
  sl_for (invG d L mj mp mf mn q O W) $$ [Hmw Hj Hp Hnb Hfb Hjb Hpb Hs2 Hs3 HO]
  case region =>
    intro g a
    unfold invG
    iintro ⟨%ha, H⟩
    rw [show trips (fun g acc => gStep mn mf (blk mj (jOff (wid L) g)) (blk mp (pOff (wid L) g)) acc) zero16 (g.val + 1)
      = gStep mn mf (blk mj (jOff (wid L) g)) (blk mp (pOff (wid L) g)) a from by rw [trips, ha]]
    iapply (gbody d L g a mj mp mf mn hn q O W)
    iexact H
  · unfold invG
    isplitr; · ipureintro; rfl
    isplitl [Hmw]; · iexact Hmw
    isplitl [Hj]; · iexact Hj
    isplitl [Hp]; · iexact Hp
    isplitl [Hnb]; · iexact Hnb
    isplitl [Hfb]; · iexact Hfb
    isplitl [Hjb]; · iexists _; iexact Hjb
    isplitl [Hpb]; · iexists _; iexact Hpb
    isplitl [Hs2]; · iexact Hs2
    isplitl [Hs3]; · iexact Hs3
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact .inl hp
  iintro %a HI
  unfold invG
  icases HI with ⟨%ha, #Hmw, Hj, Hp, Hnb, Hfb, ⟨%fj', Hjb⟩, ⟨%fp', Hpb⟩, Hs2, Hs3, %W', %hW', HO⟩
  sl_exec (disch := exact View.amount_pos _ _ (show 0 < S16.numel by decide))
  sl_step
  isplitl [Hj Hp Hf Hn Ho]
  · isplitl [Hj]; · iexact Hj
    isplitl [Hp]; · iexact Hp
    isplitl [Hf]; · iexact Hf
    isplitl [Hn]; · iexact Hn
    iapply (Entails.of_eq (pts_oK (F := F) d L _))
    iapply (Entails.of_eq (pointsTo_congr (oland L mj mp mf mn a (tile_body.sl.dma2 d L fa a) f₀ ha (dland fa a))))
    iexact Ho
  isplitl [Hjb Hpb Hfb Hnb Hab Hbufs]
  · isplitl [Hjb]; · iexists _; iexact Hjb
    isplitl [Hpb]; · iexists _; iexact Hpb
    isplitl [Hfb]; · iexists _; iexact Hfb
    isplitl [Hnb]; · iexists _; iexact Hnb
    isplitl [Hab]; · iexists _; iexact Hab
    iexact Hbufs
  isplitl [Hs0 Hs1 Hs2 Hs3 Hs4 Hsems]
  · isplitl [Hs0]; · iexact Hs0
    isplitl [Hs1]; · iexact Hs1
    isplitl [Hs2]; · iexact Hs2
    isplitl [Hs3]; · iexact Hs3
    isplitl [Hs4]; · iexact Hs4
    iexact Hsems
  iexists _; isplitr
  swap; · iexact HO
  ipureintro; intro p hp
  rcases Finset.mem_insert.mp hp with hp | hp; · exact .inr (hp ▸ rfl)
  exact hW' p hp

end Cert.Proof.KernelIdeal

end
-- ==== Proof.Host.lean ====
/-
  @main's host operations around the SparseCore call: as two lines of operations, what they leave in the call's operands,
  and the references they write.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Task
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Idealize.ShloMosaic.StableHlo

variable [FloatOps F]

/-- The operations of @main before the call. -/
abbrev preOps : List (HloOp τ sig (Elt F)) :=
  [ StableHlo.nullary main_cst (constant S_ .f32 0x3F000000#32),
    StableHlo.unary main_cst main_v0 (broadcastInDim S512 ![] bcast_S_S512 : (⟨S_, .f32⟩ : BufTy).Contents (Elt F) → (⟨S512, .f32⟩ : BufTy).Contents (Elt F)),
    StableHlo.binary main_arg4 main_v0 main_v1 (mulf : (⟨S512, .f32⟩ : BufTy).Contents (Elt F) → (⟨S512, .f32⟩ : BufTy).Contents (Elt F) → (⟨S512, .f32⟩ : BufTy).Contents (Elt F)),
    StableHlo.binary main_arg2 main_arg3 main_v2 (addf : (⟨S512, .f32⟩ : BufTy).Contents (Elt F) → (⟨S512, .f32⟩ : BufTy).Contents (Elt F) → (⟨S512, .f32⟩ : BufTy).Contents (Elt F)),
    StableHlo.binary main_v1 main_v2 main_v3 (mulf : (⟨S512, .f32⟩ : BufTy).Contents (Elt F) → (⟨S512, .f32⟩ : BufTy).Contents (Elt F) → (⟨S512, .f32⟩ : BufTy).Contents (Elt F)),
    StableHlo.nullary main_cst_0 (constant S_ .f32 0x3F000000#32),
    StableHlo.unary main_cst_0 main_v4 (broadcastInDim S512 ![] bcast_S_S512 : (⟨S_, .f32⟩ : BufTy).Contents (Elt F) → (⟨S512, .f32⟩ : BufTy).Contents (Elt F)),
    StableHlo.binary main_arg4 main_v4 main_v5 (mulf : (⟨S512, .f32⟩ : BufTy).Contents (Elt F) → (⟨S512, .f32⟩ : BufTy).Contents (Elt F) → (⟨S512, .f32⟩ : BufTy).Contents (Elt F)),
    StableHlo.binary main_arg3 main_arg2 main_v6 (subf : (⟨S512, .f32⟩ : BufTy).Contents (Elt F) → (⟨S512, .f32⟩ : BufTy).Contents (Elt F) → (⟨S512, .f32⟩ : BufTy).Contents (Elt F)),
    StableHlo.binary main_v5 main_v6 main_v7 (mulf : (⟨S512, .f32⟩ : BufTy).Contents (Elt F) → (⟨S512, .f32⟩ : BufTy).Contents (Elt F) → (⟨S512, .f32⟩ : BufTy).Contents (Elt F)),
    StableHlo.nullary main_cst_1 (constant S_ .f32 0x3F000000#32),
    StableHlo.unary main_cst_1 main_v8 (broadcastInDim S1024 ![] bcast_S_S1024 : (⟨S_, .f32⟩ : BufTy).Contents (Elt F) → (⟨S1024, .f32⟩ : BufTy).Contents (Elt F)),
    StableHlo.binary main_arg7 main_v8 main_v9 (mulf : (⟨S1024, .f32⟩ : BufTy).Contents (Elt F) → (⟨S1024, .f32⟩ : BufTy).Contents (Elt F) → (⟨S1024, .f32⟩ : BufTy).Contents (Elt F)),
    StableHlo.binary main_arg5 main_arg6 main_v10 (addf : (⟨S1024, .f32⟩ : BufTy).Contents (Elt F) → (⟨S1024, .f32⟩ : BufTy).Contents (Elt F) → (⟨S1024, .f32⟩ : BufTy).Contents (Elt F)),
    StableHlo.binary main_v9 main_v10 main_v11 (mulf : (⟨S1024, .f32⟩ : BufTy).Contents (Elt F) → (⟨S1024, .f32⟩ : BufTy).Contents (Elt F) → (⟨S1024, .f32⟩ : BufTy).Contents (Elt F)),
    StableHlo.nullary main_cst_2 (constant S_ .f32 0x3F000000#32),
    StableHlo.unary main_cst_2 main_v12 (broadcastInDim S1024 ![] bcast_S_S1024 : (⟨S_, .f32⟩ : BufTy).Contents (Elt F) → (⟨S1024, .f32⟩ : BufTy).Contents (Elt F)),
    StableHlo.binary main_arg7 main_v12 main_v13 (mulf : (⟨S1024, .f32⟩ : BufTy).Contents (Elt F) → (⟨S1024, .f32⟩ : BufTy).Contents (Elt F) → (⟨S1024, .f32⟩ : BufTy).Contents (Elt F)),
    StableHlo.binary main_arg6 main_arg5 main_v14 (subf : (⟨S1024, .f32⟩ : BufTy).Contents (Elt F) → (⟨S1024, .f32⟩ : BufTy).Contents (Elt F) → (⟨S1024, .f32⟩ : BufTy).Contents (Elt F)),
    StableHlo.binary main_v13 main_v14 main_v15 (mulf : (⟨S1024, .f32⟩ : BufTy).Contents (Elt F) → (⟨S1024, .f32⟩ : BufTy).Contents (Elt F) → (⟨S1024, .f32⟩ : BufTy).Contents (Elt F)),
    StableHlo.binary main_arg10 main_arg8 main_v16 (mulf : (⟨S512, .f32⟩ : BufTy).Contents (Elt F) → (⟨S512, .f32⟩ : BufTy).Contents (Elt F) → (⟨S512, .f32⟩ : BufTy).Contents (Elt F)),
    StableHlo.binary main_arg10 main_arg9 main_v17 (mulf : (⟨S512, .f32⟩ : BufTy).Contents (Elt F) → (⟨S512, .f32⟩ : BufTy).Contents (Elt F) → (⟨S512, .f32⟩ : BufTy).Contents (Elt F)),
    StableHlo.nary ![main_arg4, main_v3, main_v7, main_arg7, main_v11, main_v15, main_v16, main_v17, main_arg10, main_arg11, main_arg12] main_v18 (fun u => (concatenate S7168 0 [⟨S512, (u 0 : (⟨S512, .f32⟩ : BufTy).Contents (Elt F))⟩, ⟨S512, (u 1 : (⟨S512, .f32⟩ : BufTy).Contents (Elt F))⟩, ⟨S512, (u 2 : (⟨S512, .f32⟩ : BufTy).Contents (Elt F))⟩, ⟨S1024, (u 3 : (⟨S1024, .f32⟩ : BufTy).Contents (Elt F))⟩, ⟨S1024, (u 4 : (⟨S1024, .f32⟩ : BufTy).Contents (Elt F))⟩, ⟨S1024, (u 5 : (⟨S1024, .f32⟩ : BufTy).Contents (Elt F))⟩, ⟨S512, (u 6 : (⟨S512, .f32⟩ : BufTy).Contents (Elt F))⟩, ⟨S512, (u 7 : (⟨S512, .f32⟩ : BufTy).Contents (Elt F))⟩, ⟨S512, (u 8 : (⟨S512, .f32⟩ : BufTy).Contents (Elt F))⟩, ⟨S512, (u 9 : (⟨S512, .f32⟩ : BufTy).Contents (Elt F))⟩, ⟨S512, (u 10 : (⟨S512, .f32⟩ : BufTy).Contents (Elt F))⟩] concatenates_S512_S512_S512_S1024_S1024_S1024_S512_S512_S512_S512_S512_S7168_d0 : (⟨S7168, .f32⟩ : BufTy).Contents (Elt F))),
    StableHlo.nary ![main_arg13, main_arg14, main_arg15, main_arg16] main_v19 (fun u => (concatenate S2560 0 [⟨S512, (u 0 : (⟨S512, .i32⟩ : BufTy).Contents (Elt F))⟩, ⟨S1024, (u 1 : (⟨S1024, .i32⟩ : BufTy).Contents (Elt F))⟩, ⟨S512, (u 2 : (⟨S512, .i32⟩ : BufTy).Contents (Elt F))⟩, ⟨S512, (u 3 : (⟨S512, .i32⟩ : BufTy).Contents (Elt F))⟩] concatenates_S512_S1024_S512_S512_S2560_d0 : (⟨S2560, .i32⟩ : BufTy).Contents (Elt F))),
    StableHlo.reshape main_arg1 main_v20 (rfl : (.f32 : EltTy) = .f32) shapeCasts_S16384x4096_S67108864,
    StableHlo.reshape main_arg0 main_v21 (rfl : (.f32 : EltTy) = .f32) shapeCasts_S16384x512_S8388608 ]

/-- The operations of @main after it. -/
abbrev sufOps : List (HloOp τ sig (Elt F)) :=
  [ StableHlo.nullary main_cst_3 (constant S_ .f32 0x00000000#32),
    StableHlo.binary main_v22 main_cst_3 main_v23 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)) ]

/-- The references written before the call. -/
abbrev preRefs : List (Ref sig .tc) := [main_cst, main_v0, main_v1, main_v2, main_v3, main_cst_0, main_v4, main_v5, main_v6, main_v7, main_cst_1, main_v8, main_v9, main_v10, main_v11, main_cst_2, main_v12, main_v13, main_v14, main_v15, main_v16, main_v17, main_v18, main_v19, main_v20, main_v21]
/-- The references written after it. -/
abbrev sufRefs : List (Ref sig .tc) := [main_cst_3, main_v23]

theorem preOps_sub : (preOps (F := F)).Forall fun op => op.bufs ⊆ tcRefs τ sig :=
  ⟨nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., binary_bufs_sub .., binary_bufs_sub .., nary_bufs_sub .., nary_bufs_sub .., reshape_bufs_sub .., reshape_bufs_sub ..⟩
theorem sufOps_sub : (sufOps (F := F)).Forall fun op => op.bufs ⊆ tcRefs τ sig :=
  ⟨nullary_bufs_sub .., binary_bufs_sub ..⟩

theorem preOps_fresh : ∀ op ∈ preOps (F := F), op.fresh = ∅ := by
  intro _ h; (repeat (cases h with | head => rfl | tail _ h => ?_)); exact nomatch h
theorem sufOps_fresh : ∀ op ∈ sufOps (F := F), op.fresh = ∅ := by
  intro _ h; (repeat (cases h with | head => rfl | tail _ h => ?_)); exact nomatch h

theorem preOps_writes : (preOps (F := F)).Forall fun op => op.writes ⊆ (preRefs.map (Proc.devRef (τ := τ) .tc)).toFinset :=
  forall_writes_sub_of_map rfl
theorem sufOps_writes : (sufOps (F := F)).Forall fun op => op.writes ⊆ (sufRefs.map (Proc.devRef (τ := τ) .tc)).toFinset :=
  forall_writes_sub_of_map rfl

/-- @main is the one line, the call, the other line. -/
theorem main_eq (d : Dev nD) : main (F := F) d = (seq preOps >>= fun _ => ((K (F := F)).run d 0 >>= fun _ => seq sufOps)) := by
  simp only [main, seq, bind_assoc, pure_bind]

end Cert.Proof.KernelIdeal

end
-- ==== Proof.Launch.lean ====
/-
  The launch: the operands dealt to the thirty-two tasks and gathered from them, @main on the TensorCore, and the
  program's run with its result as one term of the arguments.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.ShareLeaves
public import Idealize.ShloMosaic.Lib.Pipeline.Frame
public import proofs.«01_k».proof.Proof.Host
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Idealize.ShloMosaic.StableHlo
open Idealize.ShloMosaic.Pipeline (ucRefs unscopedBufs_held sub_ucRefs)
open Idealize.ShloMosaic.ShareLeaves (leaf pointsTo_leaves)

local notation "𝕄" => MT nD τ sig (HIx 1) (Elt F) ℕ UU ℕ

variable (m : (ℓ : Loc nD τ sig) → Buf (Elt F) ℓ) (ρ : Dev nD → PrngReg)
variable [FloatOps F]

/-! ## What the call's operands hold -/

/-- The TensorCore's buffers at the call. -/
abbrev atCall (d : Dev nD) : Valuation τ sig (Elt F) := after preOps (launchContents m d)

abbrev cj (d : Dev nD) : Vec F S67108864 .f32 := atCall m d (Proc.devRef .tc main_v20)
abbrev cp (d : Dev nD) : Vec F S8388608 .f32 := atCall m d (Proc.devRef .tc main_v21)
abbrev cf (d : Dev nD) : Vec F S7168 .f32 := atCall m d (Proc.devRef .tc main_v18)
abbrev cn (d : Dev nD) : Vec F S2560 .i32 := atCall m d (Proc.devRef .tc main_v19)
abbrev co (d : Dev nD) : Buf (Elt F) (oLoc d) := atCall m d (Proc.devRef .tc main_v22)
/-- The result array the call leaves. -/
abbrev cr (d : Dev nD) : Buf (Elt F) (oLoc d) := outVal (cj m d) (cp m d) (cf m d) (cn m d)

/-- The TensorCore's buffers after the call. -/
def ret (d : Dev nD) : Valuation τ sig (Elt F) := Function.update (atCall m d) (Proc.devRef .tc main_v22) (cr m d)

/-- What the proof asks of the launch memory: the integer table names words of the blocks. -/
def PreOK : Prop := ∀ d, InRange (cn m d)

/-! ## What the handshakes carry -/

/-- The number of the task on subcore `i` of SparseCore `c`. -/
abbrev task (c : Fin 2) (i : Fin 16) : Fin 32 := ⟨2 * i.val + c.val, by omega⟩

/-- Task `w`'s part of the operands, its words of the result at `f`. -/
abbrev tp (d : Dev nD) (w : Fin 32) (f : Buf (Elt F) (oLoc d)) : sProp 𝕄 :=
  tilePts (cj m d) (cp m d) (cf m d) (cn m d) d (leaf 5 fullShare w) w f

/-- The call takes each SparseCore its sixteen tasks' parts, each task its own, and brings them back, the result's words at
    what the tasks leave. -/
def P : (K (F := F)).Pay (nD := nD) (Val := Elt F) (Name := ℕ) (U := UU) where
  st := fun q d c => match q with
    | 0 => bigSep Finset.univ fun i : Fin ((K (F := F)).nSub 0) => tp m d (task (Fin.cast nCore_zero c) (Fin.cast nSub_zero i)) (co m d)
  dn := fun q d c => match q with
    | 0 => bigSep Finset.univ fun i : Fin ((K (F := F)).nSub 0) => tp m d (task (Fin.cast nCore_zero c) (Fin.cast nSub_zero i)) (cr m d)
  go := fun q d c i => match q with
    | 0 => tp m d (task (Fin.cast nCore_zero c) (Fin.cast nSub_zero i)) (co m d)
  td := fun q d c i => match q with
    | 0 => tp m d (task (Fin.cast nCore_zero c) (Fin.cast nSub_zero i)) (cr m d)
  x := fun _ _ => iprop(emp)

instance P_storable : (P m).IsStorable where
  st := fun q d c => match q with
    | 0 => (inferInstance : BI.Storable (upEmb : UEmb _ 𝕄)
        (bigSep Finset.univ fun i : Fin ((K (F := F)).nSub 0) => tp m d (task (Fin.cast nCore_zero c) (Fin.cast nSub_zero i)) (co m d)))
  dn := fun q d c => match q with
    | 0 => (inferInstance : BI.Storable (upEmb : UEmb _ 𝕄)
        (bigSep Finset.univ fun i : Fin ((K (F := F)).nSub 0) => tp m d (task (Fin.cast nCore_zero c) (Fin.cast nSub_zero i)) (cr m d)))
  go := fun q d c i => match q with
    | 0 => (inferInstance : BI.Storable (upEmb : UEmb _ 𝕄) (tp m d (task (Fin.cast nCore_zero c) (Fin.cast nSub_zero i)) (co m d)))
  td := fun q d c i => match q with
    | 0 => (inferInstance : BI.Storable (upEmb : UEmb _ 𝕄) (tp m d (task (Fin.cast nCore_zero c) (Fin.cast nSub_zero i)) (cr m d)))

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          jV (Memref.isWhole_whole _) pV (Memref.isWhole_whole _) fV (Memref.isWhole_whole _) nV (Memref.isWhole_whole _)
          oV (Memref.isWhole_whole _) jB (Memref.isWhole_whole _) pB (Memref.isWhole_whole _) fB (Memref.isWhole_whole _) nB (Memref.isWhole_whole _)
          aB (Memref.isWhole_whole _) cc0_scoped0 cc0_scoped1 cc0_scoped2 cc0_scoped3 cc0_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task does what the call's handshakes say. -/
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (cj m d) (cp m d) (cf m d) (cn m d) (hpre d)
    (leaf 5 fullShare (task (Fin.cast nCore_zero c) (Fin.cast nSub_zero i))) (co m d) O W hO).trans (wp_mono frame _ _ fun _ => obl_post)

/-- A SparseCore's part is its tasks' parts. -/
theorem vecSplit : (K (F := F)).VecSplit' (P m) 0 := by
  intro d c
  show (bigSep Finset.univ fun i : Fin ((K (F := F)).nSub 0) => tp m d (task (Fin.cast nCore_zero c) (Fin.cast nSub_zero i)) (co m d))
    ⊢ |={Set.univ}=> iprop(
      (bigSep Finset.univ fun i : Fin ((K (F := F)).nSub 0) => tp m d (task (Fin.cast nCore_zero c) (Fin.cast nSub_zero i)) (co m d))
      ∗ ((bigSep Finset.univ fun i : Fin ((K (F := F)).nSub 0) => tp m d (task (Fin.cast nCore_zero c) (Fin.cast nSub_zero i)) (cr m d))
        -∗ (bigSep Finset.univ fun i : Fin ((K (F := F)).nSub 0) => tp m d (task (Fin.cast nCore_zero c) (Fin.cast nSub_zero i)) (cr m d))))
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The operands dealt and gathered -/

omit [FloatOps F] in
theorem oSet_eq (w : Fin 32) : oSet w = (orow w).set := by
  show ((View.whole (main_v22_scv : Ref sig .scVector)).slice (orow w)).set = _
  rw [View.set_slice]; exact Finset.map_refl
omit [FloatOps F] in
theorem orows_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint odiv h
omit [FloatOps F] in
theorem orows_cover : (Finset.univ : Finset (Fin 32)).biUnion oSet = Finset.univ :=
  (Finset.biUnion_congr rfl fun i _ => oSet_eq i).trans (Rect.biUnion_part odiv)
omit [FloatOps F] in
theorem oPts_rows (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet orows_disjoint, orows_cover]; try rfl

omit [FloatOps F] in
/-- Over the thirty-two tasks is over the SparseCores and, in each, its sixteen subcores. -/
theorem bigSep_cores (Φ : Fin 32 → sProp 𝕄) :
    bigSep Finset.univ Φ = bigSep Finset.univ fun c : Fin 2 => bigSep Finset.univ fun i : Fin 16 => Φ (task c i) := by
  let e : Fin 2 × Fin 16 ≃ Fin 32 :=
    ⟨fun p => task p.1 p.2, fun w => (⟨w.val % 2, by omega⟩, ⟨w.val / 2, by omega⟩),
      fun p => Prod.ext (Fin.ext (by show (2 * p.2.val + p.1.val) % 2 = p.1.val; omega)) (Fin.ext (by show (2 * p.2.val + p.1.val) / 2 = p.2.val; omega)),
      fun w => Fin.ext (by show 2 * (w.val / 2) + w.val % 2 = w.val; omega)⟩
  rw [bigSep_univ_equiv e, bigSep_univ_prod]; rfl

/-- The five operands, the result at `f`, are the tasks' parts. -/
theorem operands_eq (d : Dev nD) (f : Buf (Elt F) (oLoc d)) :
    iprop((jLoc d ↦{fullShare} cj m d) ∗ (pLoc d ↦{fullShare} cp m d) ∗ (fLoc d ↦{fullShare} cf m d) ∗ (nLoc d ↦{fullShare} cn m d) ∗ oLoc d ↦{fullShare} f)
      = (bigSep Finset.univ fun c : Fin ((K (F := F)).nCore 0) => bigSep Finset.univ fun i : Fin ((K (F := F)).nSub 0) =>
          tp m d (task (Fin.cast nCore_zero c) (Fin.cast nSub_zero i)) f : sProp 𝕄) := by
  refine Eq.trans ?_ (bigSep_cores (fun w => tp m d w f))
  unfold tp tilePts
  rw [bigSep_sep', bigSep_sep', bigSep_sep', bigSep_sep', oPts_rows d f]
  exact congrArg₂ _ (pointsTo_leaves (ℓ := jLoc d) Finset.univ (cj m d) 5 fullShare)
    (congrArg₂ _ (pointsTo_leaves (ℓ := pLoc d) Finset.univ (cp m d) 5 fullShare)
      (congrArg₂ _ (pointsTo_leaves (ℓ := fLoc d) Finset.univ (cf m d) 5 fullShare)
        (congrArg₂ _ (pointsTo_leaves (ℓ := nLoc d) Finset.univ (cn m d) 5 fullShare) rfl)))

/-- The call's operands among the TensorCore's buffers. -/
abbrev operands : Finset (DevRef τ sig) :=
  {Proc.devRef .tc main_v20, Proc.devRef .tc main_v21, Proc.devRef .tc main_v18, Proc.devRef .tc main_v19, Proc.devRef .tc main_v22}

omit [FloatOps F] in
theorem operands_sub : operands ⊆ ucRefs τ sig := by decide

omit [FloatOps F] in
theorem held_operands (d : Dev nD) (W : Valuation τ sig (Elt F)) :
    (held (SparseCore.T d) operands W : sProp 𝕄)
      = iprop((jLoc d ↦{fullShare} W (Proc.devRef .tc main_v20)) ∗ (pLoc d ↦{fullShare} W (Proc.devRef .tc main_v21)) ∗ (fLoc d ↦{fullShare} W (Proc.devRef .tc main_v18))
          ∗ (nLoc d ↦{fullShare} W (Proc.devRef .tc main_v19)) ∗ oLoc d ↦{fullShare} W (Proc.devRef .tc main_v22)) := by
  unfold held operands
  rw [SparseCore.bigSep_insert' (by decide), SparseCore.bigSep_insert' (by decide), SparseCore.bigSep_insert' (by decide), SparseCore.bigSep_insert' (by decide), bigSep_singleton]

/-! ## @main on the TensorCore -/

/-- What the TensorCore ends with: its buffers after the last operations. -/
abbrev FIN (d : Dev nD) : sProp 𝕄 := held (SparseCore.T d) (ucRefs τ sig) (after sufOps (ret m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = held (SparseCore.T d) (ucRefs τ sig) (launchContents m d) from
    unscopedBufs_held d (launchContents m d)]
  iintro ⟨#Hctx, Hst, ⟨Hb, Hbufs, Hts, -⟩, -⟩
  iapply (wp_seq 𝒱 none Set.univ d (ucRefs τ sig) _ preOps
    (fun op h => sub_ucRefs op (List.forall_iff_forall_mem.1 preOps_sub op h)) preOps_fresh (launchContents m d)) $$ [Hb Hbufs]
  · isplitl [Hb] <;> iassumption
  iintro ⟨Hb, Hbufs⟩
  ihave H := (Entails.of_eq (held_sub_split (SparseCore.T d) operands_sub (atCall m d))) $$ Hbufs
  icases H with ⟨Hop, Hrest⟩
  ihave Hop := (Entails.of_eq ((held_operands d (atCall m d)).trans (operands_eq m d (co m d)))) $$ Hop
  rw [wp_bind]
  iapply ((K (F := F)).wp_run (D (F := F)) 𝒱 (EH := EH) (P := P m) κ d 0) $$ [Hst Hop Hrest Hb Hts]
  isplitr; · iexact Hctx
  isplitl [Hst]; · iexact Hst
  isplitl [Hop]; · iexact Hop
  iintro ⟨Hst, Hop⟩
  ihave Hop := (Entails.of_eq (show (bigSep Finset.univ fun c : Fin ((K (F := F)).nCore 0) => (P m).dn 0 d c)
      = (bigSep Finset.univ fun c : Fin ((K (F := F)).nCore 0) => bigSep Finset.univ fun i : Fin ((K (F := F)).nSub 0) =>
          tp m d (task (Fin.cast nCore_zero c) (Fin.cast nSub_zero i)) (cr m d) : sProp 𝕄) from rfl)) $$ Hop
  ihave Hop := (Entails.of_eq (((operands_eq m d (cr m d)).symm).trans (show _ = (held (SparseCore.T d) operands (ret m d) : sProp 𝕄) from by
    rw [held_operands]; unfold ret
    rw [Function.update_self, Function.update_of_ne (by decide), Function.update_of_ne (by decide), Function.update_of_ne (by decide), Function.update_of_ne (by decide)]))) $$ Hop
  ihave Hrest := (Entails.of_eq (held_congr (SparseCore.T d) (S := ucRefs τ sig \ operands) (V := atCall m d) (V' := ret m d) fun b hb => by
    unfold ret
    exact (Function.update_of_ne (fun e : b = Proc.devRef .tc main_v22 => (Finset.mem_sdiff.mp hb).2 (e ▸ (by decide : Proc.devRef .tc main_v22 ∈ operands))) _ _).symm)) $$ Hrest
  ihave Hbufs := (Entails.of_eq (held_sub_split (SparseCore.T d) operands_sub (ret m d)).symm) $$ [Hop Hrest]
  · isplitl [Hop] <;> iassumption
  rw [show seq (Λ := _) (nD := nD) (sufOps (F := F)) = (seq sufOps >>= fun u => Pure.pure u) from (bind_pure _).symm]
  iapply (wp_seq 𝒱 none Set.univ d (ucRefs τ sig) _ sufOps
    (fun op h => sub_ucRefs op (List.forall_iff_forall_mem.1 sufOps_sub op h)) sufOps_fresh (ret m d)) $$ [Hb Hbufs]
  · isplitl [Hb] <;> iassumption
  iintro ⟨Hb, Hbufs⟩
  rw [wp_pure]; imodintro
  isplitl [Hst]; · iexact Hst
  isplitl [Hbufs]; · iexact Hbufs
  isplitl [Hb] <;> iassumption

/-! ## The program's run -/

/-- Every unscoped buffer of the TensorCore ends at its fold. -/
def fq (d : Dev nD) (s' : Phys nD τ sig (Elt F)) : Prop := ∀ b ∈ ucRefs τ sig, s'.mem.mem (d, b) = after sufOps (ret m d) b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (ucRefs τ sig)) $$ [HSI H]
  · isplitl [HSI]; · iexact HSI
    iexact H
  ipureintro
  exact h

def QC : PUnit × MemSt nD τ sig (Elt F) → Prop :=
  fun r => (∀ d : Dev nD, ∀ b ∈ ucRefs τ sig, r.2.mem (d, b) = after sufOps (ret m d) b) ∧ r.2.sem = fun _ => 0

/-- Every weakly fair execution ends, every unscoped buffer of the TensorCore at its fold, every counter at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

/-- A buffer that nothing in @main writes ends as it began. -/
theorem fold_arg (d : Dev nD) (r : Ref sig .tc) (h₁ : r ∉ preRefs) (h₂ : r ∉ sufRefs) (h₃ : r ≠ main_v22) :
    after sufOps (ret m d) (Proc.devRef .tc r) = m ((SparseCore.T d).loc r) := by
  rw [after_of_writes_sub sufOps _ sufOps_writes h₂]
  unfold ret
  rw [Function.update_of_ne (devRef_ne_of_ne h₃)]
  exact after_of_writes_sub preOps _ preOps_writes h₁

/-- The result is the sum of the words the tasks leave. -/
theorem fold_result (d : Dev nD) :
    after sufOps (ret m d) (Proc.devRef .tc main_v23)
      = (Host.reduceAdd (cr m d) (constant S_ .f32 0x00000000#32) reducesTo_S512_S_d0 h_S_ : Vec F S_ .f32) := by
  simp only [sufOps]
  after_results_simp
  unfold ret
  rw [Function.update_self]

end Cert.Proof.KernelIdeal

end
-- ==== Proof.Pre.lean ====
/-
  The precondition of the frames read back: every index is a column's number.
-/
module

public import proofs.«01_k».proof.Defs
public import proofs.«01_k».proof.Proof.Gen.Pre_indices_in_range
public import Idealize.ShloMosaic.Lib.ReduceAll
public import Idealize.ShloMosaic.Lib.PointwiseCore

@[expose] public section

noncomputable section

namespace Cert.Proof.Pre

open Idealize.ShloMosaic

/-- A word that is at least 0 and less than `n`, both as signed words, is less than `n`. -/
theorem lt_of_range {n : ℕ} (hn : n < 2 ^ 31) (v : BitVec 32)
    (e : IntOp.andi (IntOp.cmpi .sge v 0#32) (IntOp.cmpi .slt v (BitVec.ofNat 32 n)) = 1#1) : v.toNat < n := by
  have ofBool_eq_one (p : Bool) : (BitVec.ofBool p = 1#1) ↔ p = true := by cases p <;> decide
  have hm : n % 4294967296 = n := Nat.mod_eq_of_lt (by omega)
  simp only [IntOp.andi_eq_one, IntOp.cmpi, ofBool_eq_one, BitVec.sle_eq_decide, BitVec.slt_eq_decide,
    decide_eq_true_eq, BitVec.toInt_eq_toNat_cond, BitVec.toNat_ofNat, Nat.reducePow, hm] at e
  omega

theorem andi_at {s : Shape} (x y : IVec s 1) (i : s.Idx) : andi x y i = IntOp.andi (x i) (y i) := rfl

instance : Subsingleton (Pre_indices_in_range.S_).Idx := ⟨fun _ _ => funext fun a => a.elim0⟩

/-- The four arrays of indices are in their ranges. -/
def Cols (a13 : IVec ⟨1, ![512]⟩ 32) (a14 : IVec ⟨1, ![1024]⟩ 32) (a15 a16 : IVec ⟨1, ![512]⟩ 32) : Prop :=
  (∀ i, (a13 i).toNat < 512) ∧ (∀ i, (a14 i).toNat < 4096) ∧ (∀ i, (a15 i).toNat < 512) ∧ ∀ i, (a16 i).toNat < 512

section
variable {F : FTy → Type} [FloatOps F]

/-- `indices_in_range` all ones puts the indices in their ranges. -/
theorem cols_of_range [Pre_indices_in_range.Facts] {a0 a1 a2 a3 a4 a5 a6 a7 a8 a9 a10 a11 a12 a13 a14 a15 a16}
    (h : Pre_indices_in_range.fn (F := F) a0 a1 a2 a3 a4 a5 a6 a7 a8 a9 a10 a11 a12 a13 a14 a15 a16 = fun _ => 1#1) : Cols a13 a14 a15 a16 := by
  have e := congrFun h (fun a => a.elim0)
  unfold Pre_indices_in_range.fn Pre_indices_in_range.fn_part1 at e
  simp only [andi_at, IntOp.andi_eq_one] at e
  obtain ⟨⟨⟨e1, e2⟩, e3⟩, e4⟩ := e
  exact ⟨fun i => lt_of_range (by decide) _ (Host.reduce_andi_all _ _ _ _ _ e1 i), fun i => lt_of_range (by decide) _ (Host.reduce_andi_all _ _ _ _ _ e2 i),
    fun i => lt_of_range (by decide) _ (Host.reduce_andi_all _ _ _ _ _ e3 i), fun i => lt_of_range (by decide) _ (Host.reduce_andi_all _ _ _ _ _ e4 i)⟩

end

end Cert.Proof.Pre

end
-- ==== Proof.Tables.lean ====
/-
  The table of indices at the call is the four arrays of indices laid end to end; with every index in its range the
  tasks' checks pass.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.PointwiseCore
public import proofs.«01_k».proof.Proof.Launch
public import proofs.«01_k».proof.Proof.Pre
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Idealize.ShloMosaic.StableHlo
open Idealize.ShloMosaic.Pipeline (ucRefs)

variable (m : (ℓ : Loc nD τ sig) → Buf (Elt F) ℓ)
variable [FloatOps F]

omit [FloatOps F] in
theorem at1_ix1 {n : ℕ} [NeZero n] {α : Type} (f : (⟨1, ![n]⟩ : Shape).Idx → α) {k : ℕ} (h : k < n) : at1 f k = f (ix1 ⟨k, h⟩) :=
  (at1_eq f (ix1 ⟨k, h⟩) rfl).symm

abbrev a13 (d : Dev nD) : IVec S512 32 := m ((SparseCore.T d).loc main_arg13)
abbrev a14 (d : Dev nD) : IVec S1024 32 := m ((SparseCore.T d).loc main_arg14)
abbrev a15 (d : Dev nD) : IVec S512 32 := m ((SparseCore.T d).loc main_arg15)
abbrev a16 (d : Dev nD) : IVec S512 32 := m ((SparseCore.T d).loc main_arg16)

/-- The table of indices. -/
theorem cn_eq (d : Dev nD) :
    cn m d = concatenate S2560 0 [⟨S512, a13 m d⟩, ⟨S1024, a14 m d⟩, ⟨S512, a15 m d⟩, ⟨S512, a16 m d⟩] concatenates_S512_S1024_S512_S512_S2560_d0 := by
  unfold cn atCall
  simp only [preOps]
  after_results_simp <;> rfl

theorem cn_mm (d : Dev nD) {k : ℕ} (h : k < 512) : at1 (cn m d) k = at1 (a13 m d) k := by
  rw [at1_ix1 _ (show k < 2560 by omega), at1_ix1 _ h, cn_eq]
  pointwise
  rw [dif_pos h]
theorem cn_joint (d : Dev nD) {k : ℕ} (h : k < 1024) : at1 (cn m d) (512 + k) = at1 (a14 m d) k := by
  rw [at1_ix1 _ (show 512 + k < 2560 by omega), at1_ix1 _ h, cn_eq]
  pointwise
  split_ifs <;> first | omega | exact congrArg _ (congrArg ix1 (Fin.ext (by dsimp only <;> omega)))
theorem cn_ref (d : Dev nD) {k : ℕ} (h : k < 512) : at1 (cn m d) (1536 + k) = at1 (a15 m d) k := by
  rw [at1_ix1 _ (show 1536 + k < 2560 by omega), at1_ix1 _ h, cn_eq]
  pointwise
  split_ifs <;> first | omega | exact congrArg _ (congrArg ix1 (Fin.ext (by dsimp only <;> omega)))
theorem cn_target (d : Dev nD) {k : ℕ} (h : k < 512) : at1 (cn m d) (2048 + k) = at1 (a16 m d) k := by
  rw [at1_ix1 _ (show 2048 + k < 2560 by omega), at1_ix1 _ h, cn_eq]
  pointwise
  split_ifs <;> first | omega | exact congrArg _ (congrArg ix1 (Fin.ext (by dsimp only <;> omega)))

/-- Every index in its range: what the proof asks of the launch memory. -/
theorem preOK_of_cols (h : ∀ d, Pre.Cols (a13 m d) (a14 m d) (a15 m d) (a16 m d)) : PreOK m := by
  intro d
  obtain ⟨h13, h14, h15, h16⟩ := h d
  refine ⟨fun k h₁ h₂ => ?_, fun k hk => ?_⟩
  · obtain ⟨k, rfl⟩ := Nat.exists_eq_add_of_le h₁
    rw [cn_joint m d (show k < 1024 by omega)]; exact h14 _
  · rcases hk with hk | ⟨h₁, h₂⟩
    · rw [cn_mm m d hk]; exact h13 _
    · rcases Nat.lt_or_ge k 2048 with h | h
      · obtain ⟨k, rfl⟩ := Nat.exists_eq_add_of_le h₁
        rw [cn_ref m d (show k < 512 by omega)]; exact h15 _
      · obtain ⟨k, rfl⟩ := Nat.exists_eq_add_of_le h
        rw [cn_target m d (show k < 512 by omega)]; exact h16 _

variable (ρ : Dev nD → PrngReg)

/-- Every argument as it began. -/
def Kept (r : PUnit × MemSt nD τ sig (Elt F)) (c : Dev nD) : Prop :=
  r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)

theorem kept (r : PUnit × MemSt nD τ sig (Elt F)) (h : QC m r) (c : Dev nD) : Kept m r c := by
  have k (a : Ref sig .tc) (h₀ : Proc.devRef (τ := τ) .tc a ∈ ucRefs τ sig) (h₁ : a ∉ preRefs) (h₂ : a ∉ sufRefs) (h₃ : a ≠ main_v22) :
      r.2.mem ((c.tc : Thread nD τ).loc a) = m ((c.tc : Thread nD τ).loc a) :=
    (h.1 c _ h₀).trans (fold_arg m c a h₁ h₂ h₃)
  refine ⟨?_, ?_, ?_, ?_, ?_, ?_, ?_, ?_, ?_, ?_, ?_, ?_, ?_, ?_, ?_, ?_, ?_⟩ <;>
    exact k _ (by decide) (by decide) (by decide) (by decide)

/-- With every index in its range the program ends with its arguments as they began and every counter at zero. -/
theorem frame [∀ e, Nonempty (Elt F e)] (h : ∀ d, Pre.Cols (a13 m d) (a14 m d) (a15 m d) (a16 m d)) :
    θ_run (Cert.KernelIdeal.defs (F := F)) (Cert.KernelIdeal.threads (F := F)) ⟨m, fun _ => 0, ρ⟩ (fun r => (∀ c, Kept m r c) ∧ r.2.sem = fun _ => 0) :=
  (θ_run Cert.KernelIdeal.defs _ _).mono (fun r hr => ⟨kept m r hr, hr.2⟩) (run_main m ρ (preOK_of_cols m h))

/-- The same run, with the result: the sum of the words the tasks leave. -/
theorem run_value [∀ e, Nonempty (Elt F e)] (h : ∀ d, Pre.Cols (a13 m d) (a14 m d) (a15 m d) (a16 m d)) :
    θ_run (Cert.KernelIdeal.defs (F := F)) (Cert.KernelIdeal.threads (F := F)) ⟨m, fun _ => 0, ρ⟩
      (fun r : PUnit × MemSt nD τ sig (Elt F) => ∀ c : Dev nD, r.2.mem ((c.tc : Thread nD τ).loc main_v23)
          = (Host.reduceAdd (cr m c) (constant S_ .f32 0x00000000#32) reducesTo_S512_S_d0 h_S_ : Vec F S_ .f32) ∧ Kept m r c) :=
  (θ_run Cert.KernelIdeal.defs _ _).mono (fun r hr c => ⟨(hr.1 c (Proc.devRef .tc main_v23) (by decide)).trans (fold_result m c), kept m r hr c⟩) (run_main m ρ (preOK_of_cols m h))

end Cert.Proof.KernelIdeal

end
-- ==== Proof.Frames.lean ====
/-
  The frames: each program ends, its arguments as they began and every counter at zero.
-/
module

public import proofs.«01_k».proof.Defs
public import proofs.«01_k».proof.Proof.Tables
public import proofs.«01_k».proof.Proof.Bits.Tables
public import proofs.«01_k».proof.Proof.Gen.ReferenceIdeal
public import proofs.«01_k».proof.Proof.Gen.ReferenceIdeal.Run
public import proofs.«01_k».proof.Proof.Gen.Pre_indices_in_range
public import Idealize.ShloMosaic.Adequacy
public import Idealize.ShloMosaic.Init

@[expose] public section

noncomputable section

namespace Cert.Proof

open Idealize.ShloMosaic Idealize.SL.Sem

/-- The kernel on machine floats. -/
theorem frame_kernel : Cert.quiescent_Kernel :=
  fun m ρ h => Kernel.frame (F := Bits) m ρ fun d => Pre.cols_of_range (h d)

/-- The kernel on exact floats, its indices in their ranges. -/
theorem frame_kernelIdeal : Cert.quiescent_KernelIdeal :=
  fun m ρ h => KernelIdeal.frame (F := Ideal) m ρ fun d => Pre.cols_of_range (h d)

/-- The reference has no counters, and its run leaves its arguments alone. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Proof

end
-- ==== Proof.Limits.lean ====
/-
  The precondition of the value claim read back: every limit the finite interval it is taken for.
-/
module

public import proofs.«01_k».proof.Defs
public import proofs.«01_k».proof.Proof.Pre
public import proofs.«01_k».proof.Proof.Gen.Pre_limits_well_posed
public import Idealize.ShloMosaic.Lib.ReduceAll
public import Idealize.ShloMosaic.Lib.Pointwise

@[expose] public section

noncomputable section

namespace Cert.Proof.Pre

open Idealize.ShloMosaic

/-- Two-sided limits are finite intervals and their weights finite and not negative. -/
def Limits {s : Shape} (lo hi w : FVec Ideal s .f32) : Prop :=
  ∀ i, (lo i ≠ ⊥ ∧ lo i ≠ ⊤) ∧ (hi i ≠ ⊥ ∧ hi i ≠ ⊤) ∧ (lo i : EReal) ≤ hi i ∧ (0 : EReal) ≤ w i ∧ w i ≠ ⊤

theorem fin_of_abs {x : EReal} (h : max x (-x) < ⊤) : x ≠ ⊥ ∧ x ≠ ⊤ := by
  constructor
  · rintro rfl; simp at h
  · rintro rfl; simp at h

theorem ofBits_top : Ideal.ofBits .f32 0x7F800000#32 = ⊤ := by simp [Ideal.ofBits, Ideal.ieee]

theorem ofBool_eq_one (p : Bool) : (BitVec.ofBool p = 1#1) ↔ p = true := by cases p <;> decide

/-- `limits_well_posed` all ones. -/
theorem limits_of_pre [Pre_limits_well_posed.Facts] {a0 a1 a2 a3 a4 a5 a6 a7 a8 a9 a10 a11 a12 a13 a14 a15 a16}
    (h : Pre_limits_well_posed.fn (F := Ideal) a0 a1 a2 a3 a4 a5 a6 a7 a8 a9 a10 a11 a12 a13 a14 a15 a16 = fun _ => 1#1) :
    Cols a13 a14 a15 a16 ∧ Limits a2 a3 a4 ∧ Limits a5 a6 a7 ∧ ∀ i, a10 i ≠ ⊥ ∧ a10 i ≠ ⊤ := by
  have e := congrFun h (fun a => a.elim0)
  unfold Pre_limits_well_posed.fn Pre_limits_well_posed.fn_part1 Pre_limits_well_posed.fn_part2 Pre_limits_well_posed.fn_part3 Pre_limits_well_posed.fn_part4 at e
  simp only [andi_at, IntOp.andi_eq_one] at e
  obtain ⟨⟨⟨⟨⟨⟨⟨⟨⟨⟨e1, e2⟩, e3⟩, e4⟩, e5⟩, e6⟩, e7⟩, e8⟩, e9⟩, e10⟩, e11⟩ := e
  refine ⟨⟨fun i => lt_of_range (by decide) _ (Host.reduce_andi_all _ _ _ _ _ e1 i), fun i => lt_of_range (by decide) _ (Host.reduce_andi_all _ _ _ _ _ e2 i),
    fun i => lt_of_range (by decide) _ (Host.reduce_andi_all _ _ _ _ _ e3 i), fun i => lt_of_range (by decide) _ (Host.reduce_andi_all _ _ _ _ _ e4 i)⟩,
    fun i => ?_, fun i => ?_, fun i => ?_⟩
  · have b5 := Host.reduce_andi_all _ _ _ _ _ e5 i
    have b6 := Host.reduce_andi_all _ _ _ _ _ e6 i
    have b7 := Host.reduce_andi_all _ _ _ _ _ e7 i
    pointwise at b5 b6 b7
    simp only [IntOp.andi_eq_one, ofBool_eq_one, decide_eq_true_eq, ofBits_top] at b5 b6 b7
    exact ⟨fin_of_abs b5.1, fin_of_abs b5.2, b6, b7.1, b7.2.ne⟩
  · have b5 := Host.reduce_andi_all _ _ _ _ _ e8 i
    have b6 := Host.reduce_andi_all _ _ _ _ _ e9 i
    have b7 := Host.reduce_andi_all _ _ _ _ _ e10 i
    pointwise at b5 b6 b7
    simp only [IntOp.andi_eq_one, ofBool_eq_one, decide_eq_true_eq, ofBits_top] at b5 b6 b7
    exact ⟨fin_of_abs b5.1, fin_of_abs b5.2, b6, b7.1, b7.2.ne⟩
  · have b5 := Host.reduce_andi_all _ _ _ _ _ e11 i
    pointwise at b5
    simp only [ofBool_eq_one, decide_eq_true_eq, ofBits_top] at b5
    exact fin_of_abs b5

end Cert.Proof.Pre

end
-- ==== Proof.Reads.lean ====
/-
  The packed table of numbers and the flat parameters at the call, read at a place, over the extended reals.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Pointwise
public import proofs.«01_k».proof.Proof.Tables
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.StableHlo

variable (m : (ℓ : Loc nD τ sig) → Buf (Elt Ideal) ℓ) (d : Dev nD)

abbrev a0 : FVec Ideal S16384x512 .f32 := m ((SparseCore.T d).loc main_arg0)
abbrev a1 : FVec Ideal S16384x4096 .f32 := m ((SparseCore.T d).loc main_arg1)
abbrev a2 : FVec Ideal S512 .f32 := m ((SparseCore.T d).loc main_arg2)
abbrev a3 : FVec Ideal S512 .f32 := m ((SparseCore.T d).loc main_arg3)
abbrev a4 : FVec Ideal S512 .f32 := m ((SparseCore.T d).loc main_arg4)
abbrev a5 : FVec Ideal S1024 .f32 := m ((SparseCore.T d).loc main_arg5)
abbrev a6 : FVec Ideal S1024 .f32 := m ((SparseCore.T d).loc main_arg6)
abbrev a7 : FVec Ideal S1024 .f32 := m ((SparseCore.T d).loc main_arg7)
abbrev a8 : FVec Ideal S512 .f32 := m ((SparseCore.T d).loc main_arg8)
abbrev a9 : FVec Ideal S512 .f32 := m ((SparseCore.T d).loc main_arg9)
abbrev a10 : FVec Ideal S512 .f32 := m ((SparseCore.T d).loc main_arg10)
abbrev a11 : FVec Ideal S512 .f32 := m ((SparseCore.T d).loc main_arg11)
abbrev a12 : FVec Ideal S512 .f32 := m ((SparseCore.T d).loc main_arg12)

/-- A half, as the program writes it, at every place. -/
abbrev half512 : FVec Ideal S512 .f32 := broadcastInDim S512 ![] bcast_S_S512 (constant S_ .f32 0x3F000000#32)
abbrev half1024 : FVec Ideal S1024 .f32 := broadcastInDim S1024 ![] bcast_S_S1024 (constant S_ .f32 0x3F000000#32)

/-- The packed table of numbers. -/
theorem cf_eq :
    cf m d = concatenate S7168 0 [⟨S512, a4 m d⟩, ⟨S512, mulf (mulf (a4 m d) half512) (addf (a2 m d) (a3 m d))⟩,
      ⟨S512, mulf (mulf (a4 m d) half512) (subf (a3 m d) (a2 m d))⟩,
      ⟨S1024, a7 m d⟩, ⟨S1024, mulf (mulf (a7 m d) half1024) (addf (a5 m d) (a6 m d))⟩,
      ⟨S1024, mulf (mulf (a7 m d) half1024) (subf (a6 m d) (a5 m d))⟩,
      ⟨S512, mulf (a10 m d) (a8 m d)⟩, ⟨S512, mulf (a10 m d) (a9 m d)⟩, ⟨S512, a10 m d⟩, ⟨S512, a11 m d⟩, ⟨S512, a12 m d⟩]
      concatenates_S512_S512_S512_S1024_S1024_S1024_S512_S512_S512_S512_S512_S7168_d0 := by
  unfold cf atCall
  simp only [preOps]
  after_results_simp
  rfl

theorem half_bits : Ideal.ofBits .f32 0x3F000000#32 = ((1 / 2 : ℝ) : EReal) := by
  simp [Ideal.ofBits, Ideal.ieee, -EReal.coe_mul]; norm_num

section
variable {α : Type} (v0 v1 v2 : S512.Idx → α) (v3 v4 v5 : S1024.Idx → α) (v6 v7 v8 v9 v10 : S512.Idx → α)

theorem dite_ite {c : Prop} [Decidable c] {A : c → α} {B : ¬c → α} {a b : α} (hA : ∀ h, A h = a) (hB : ∀ h, B h = b) :
    dite c A B = if c then a else b := by
  split_ifs with h
  · exact hA h
  · exact hB h

/-- The table's place `k` falls in one of its eleven stretches. -/
theorem cat_at {k : ℕ} (h : k < 7168) :
    at1 (concatenate S7168 0 [⟨S512, v0⟩, ⟨S512, v1⟩, ⟨S512, v2⟩, ⟨S1024, v3⟩, ⟨S1024, v4⟩, ⟨S1024, v5⟩, ⟨S512, v6⟩, ⟨S512, v7⟩, ⟨S512, v8⟩, ⟨S512, v9⟩, ⟨S512, v10⟩]
      concatenates_S512_S512_S512_S1024_S1024_S1024_S512_S512_S512_S512_S512_S7168_d0 : S7168.Idx → α) k
      = if k < 512 then at1 v0 (k) else
        if k - 512 < 512 then at1 v1 (k - 512) else
        if k - 512 - 512 < 512 then at1 v2 (k - 512 - 512) else
        if k - 512 - 512 - 512 < 1024 then at1 v3 (k - 512 - 512 - 512) else
        if k - 512 - 512 - 512 - 1024 < 1024 then at1 v4 (k - 512 - 512 - 512 - 1024) else
        if k - 512 - 512 - 512 - 1024 - 1024 < 1024 then at1 v5 (k - 512 - 512 - 512 - 1024 - 1024) else
        if k - 512 - 512 - 512 - 1024 - 1024 - 1024 < 512 then at1 v6 (k - 512 - 512 - 512 - 1024 - 1024 - 1024) else
        if k - 512 - 512 - 512 - 1024 - 1024 - 1024 - 512 < 512 then at1 v7 (k - 512 - 512 - 512 - 1024 - 1024 - 1024 - 512) else
        if k - 512 - 512 - 512 - 1024 - 1024 - 1024 - 512 - 512 < 512 then at1 v8 (k - 512 - 512 - 512 - 1024 - 1024 - 1024 - 512 - 512) else
        if k - 512 - 512 - 512 - 1024 - 1024 - 1024 - 512 - 512 - 512 < 512 then at1 v9 (k - 512 - 512 - 512 - 1024 - 1024 - 1024 - 512 - 512 - 512) else
        at1 v10 (k - 512 - 512 - 512 - 1024 - 1024 - 1024 - 512 - 512 - 512 - 512) := by
  rw [at1_ix1 _ h]
  pointwise
  iterate 10 refine dite_ite (fun _ => (at1_ix1 _ _).symm) fun _ => ?_
  exact (at1_ix1 _ _).symm
end

theorem cf_mm_w {c : ℕ} (h : c < 512) : (at1 (cf m d) (0 + c) : EReal) = a4 m d (ix1 ⟨c, h⟩) := by
  rw [cf_eq, cat_at _ _ _ _ _ _ _ _ _ _ _ (show 0 + c < 7168 by omega)]
  rw [if_pos] <;> try omega
  simp only [Nat.sub_sub, Nat.reduceAdd, Nat.add_sub_cancel_left, Nat.zero_add]
  rw [at1_ix1 _ h]

theorem cf_mm_m {c : ℕ} (h : c < 512) : (at1 (cf m d) (512 + c) : EReal) = a4 m d (ix1 ⟨c, h⟩) * ((1 / 2 : ℝ) : EReal) * (a2 m d (ix1 ⟨c, h⟩) + a3 m d (ix1 ⟨c, h⟩)) := by
  rw [cf_eq, cat_at _ _ _ _ _ _ _ _ _ _ _ (show 512 + c < 7168 by omega)]
  rw [if_neg, if_pos] <;> try omega
  simp only [Nat.sub_sub, Nat.reduceAdd, Nat.add_sub_cancel_left, Nat.zero_add]
  rw [at1_ix1 _ h]
  pointwise [half512, half1024, half_bits]

theorem cf_mm_h {c : ℕ} (h : c < 512) : (at1 (cf m d) (1024 + c) : EReal) = a4 m d (ix1 ⟨c, h⟩) * ((1 / 2 : ℝ) : EReal) * (a3 m d (ix1 ⟨c, h⟩) - a2 m d (ix1 ⟨c, h⟩)) := by
  rw [cf_eq, cat_at _ _ _ _ _ _ _ _ _ _ _ (show 1024 + c < 7168 by omega)]
  rw [if_neg, if_neg, if_pos] <;> try omega
  simp only [Nat.sub_sub, Nat.reduceAdd, Nat.add_sub_cancel_left, Nat.zero_add]
  rw [at1_ix1 _ h]
  pointwise [half512, half1024, half_bits]

theorem cf_joint_w {c : ℕ} (h : c < 1024) : (at1 (cf m d) (1536 + c) : EReal) = a7 m d (ix1 ⟨c, h⟩) := by
  rw [cf_eq, cat_at _ _ _ _ _ _ _ _ _ _ _ (show 1536 + c < 7168 by omega)]
  rw [if_neg, if_neg, if_neg, if_pos] <;> try omega
  simp only [Nat.sub_sub, Nat.reduceAdd, Nat.add_sub_cancel_left, Nat.zero_add]
  rw [at1_ix1 _ h]

theorem cf_joint_m {c : ℕ} (h : c < 1024) : (at1 (cf m d) (2560 + c) : EReal) = a7 m d (ix1 ⟨c, h⟩) * ((1 / 2 : ℝ) : EReal) * (a5 m d (ix1 ⟨c, h⟩) + a6 m d (ix1 ⟨c, h⟩)) := by
  rw [cf_eq, cat_at _ _ _ _ _ _ _ _ _ _ _ (show 2560 + c < 7168 by omega)]
  rw [if_neg, if_neg, if_neg, if_neg, if_pos] <;> try omega
  simp only [Nat.sub_sub, Nat.reduceAdd, Nat.add_sub_cancel_left, Nat.zero_add]
  rw [at1_ix1 _ h]
  pointwise [half512, half1024, half_bits]

theorem cf_joint_h {c : ℕ} (h : c < 1024) : (at1 (cf m d) (3584 + c) : EReal) = a7 m d (ix1 ⟨c, h⟩) * ((1 / 2 : ℝ) : EReal) * (a6 m d (ix1 ⟨c, h⟩) - a5 m d (ix1 ⟨c, h⟩)) := by
  rw [cf_eq, cat_at _ _ _ _ _ _ _ _ _ _ _ (show 3584 + c < 7168 by omega)]
  rw [if_neg, if_neg, if_neg, if_neg, if_neg, if_pos] <;> try omega
  simp only [Nat.sub_sub, Nat.reduceAdd, Nat.add_sub_cancel_left, Nat.zero_add]
  rw [at1_ix1 _ h]
  pointwise [half512, half1024, half_bits]

theorem cf_lin_s {c : ℕ} (h : c < 512) : (at1 (cf m d) (4608 + c) : EReal) = a10 m d (ix1 ⟨c, h⟩) * a8 m d (ix1 ⟨c, h⟩) := by
  rw [cf_eq, cat_at _ _ _ _ _ _ _ _ _ _ _ (show 4608 + c < 7168 by omega)]
  rw [if_neg, if_neg, if_neg, if_neg, if_neg, if_neg, if_pos] <;> try omega
  simp only [Nat.sub_sub, Nat.reduceAdd, Nat.add_sub_cancel_left, Nat.zero_add]
  rw [at1_ix1 _ h]
  rfl

theorem cf_lin_o {c : ℕ} (h : c < 512) : (at1 (cf m d) (5120 + c) : EReal) = a10 m d (ix1 ⟨c, h⟩) * a9 m d (ix1 ⟨c, h⟩) := by
  rw [cf_eq, cat_at _ _ _ _ _ _ _ _ _ _ _ (show 5120 + c < 7168 by omega)]
  rw [if_neg, if_neg, if_neg, if_neg, if_neg, if_neg, if_neg, if_pos] <;> try omega
  simp only [Nat.sub_sub, Nat.reduceAdd, Nat.add_sub_cancel_left, Nat.zero_add]
  rw [at1_ix1 _ h]
  rfl

theorem cf_lin_w {c : ℕ} (h : c < 512) : (at1 (cf m d) (5632 + c) : EReal) = a10 m d (ix1 ⟨c, h⟩) := by
  rw [cf_eq, cat_at _ _ _ _ _ _ _ _ _ _ _ (show 5632 + c < 7168 by omega)]
  rw [if_neg, if_neg, if_neg, if_neg, if_neg, if_neg, if_neg, if_neg, if_pos] <;> try omega
  simp only [Nat.sub_sub, Nat.reduceAdd, Nat.add_sub_cancel_left, Nat.zero_add]
  rw [at1_ix1 _ h]

theorem cf_lin_lo {c : ℕ} (h : c < 512) : (at1 (cf m d) (6144 + c) : EReal) = a11 m d (ix1 ⟨c, h⟩) := by
  rw [cf_eq, cat_at _ _ _ _ _ _ _ _ _ _ _ (show 6144 + c < 7168 by omega)]
  rw [if_neg, if_neg, if_neg, if_neg, if_neg, if_neg, if_neg, if_neg, if_neg, if_pos] <;> try omega
  simp only [Nat.sub_sub, Nat.reduceAdd, Nat.add_sub_cancel_left, Nat.zero_add]
  rw [at1_ix1 _ h]

theorem cf_lin_hi {c : ℕ} (h : c < 512) : (at1 (cf m d) (6656 + c) : EReal) = a12 m d (ix1 ⟨c, h⟩) := by
  rw [cf_eq, cat_at _ _ _ _ _ _ _ _ _ _ _ (show 6656 + c < 7168 by omega)]
  rw [if_neg, if_neg, if_neg, if_neg, if_neg, if_neg, if_neg, if_neg, if_neg, if_neg] <;> try omega
  simp only [Nat.sub_sub, Nat.reduceAdd, Nat.add_sub_cancel_left, Nat.zero_add]
  rw [at1_ix1 _ h]

/-- The flat joint parameters at row `b`, column `c`. -/
theorem cj_at {b c : ℕ} (hb : b < 16384) (hc : c < 4096) : (at1 (cj m d) (b * 4096 + c) : EReal) = a1 m d (ix2 ⟨b, hb⟩ ⟨c, hc⟩) := by
  rw [at1_ix1 _ (show b * 4096 + c < 67108864 by omega)]
  unfold cj atCall
  simp only [preOps]
  after_results_simp
  pointwise
  exact congrArg (a1 m d) (congrArg₂ ix2 (Fin.ext (by dsimp only; omega)) (Fin.ext (by dsimp only; omega)))

/-- The flat model parameters at row `b`, column `c`. -/
theorem cp_at {b c : ℕ} (hb : b < 16384) (hc : c < 512) : (at1 (cp m d) (b * 512 + c) : EReal) = a0 m d (ix2 ⟨b, hb⟩ ⟨c, hc⟩) := by
  rw [at1_ix1 _ (show b * 512 + c < 8388608 by omega)]
  unfold cp atCall
  simp only [preOps]
  after_results_simp
  pointwise
  exact congrArg (a0 m d) (congrArg₂ ix2 (Fin.ext (by dsimp only; omega)) (Fin.ext (by dsimp only; omega)))

end Cert.Proof.KernelIdeal

end
-- ==== Proof.Cells.lean ====
/-
  The cells: one limit at one row, as the kernel squares it and as the reference squares it, over the extended reals.
-/
module

public import Mathlib.Data.EReal.Operations
public import Mathlib.Data.EReal.Inv
public import Mathlib.Tactic.Ring
public import Mathlib.Tactic.Linarith
public import Mathlib.Tactic.NormNum

@[expose] public section

noncomputable section

namespace Cert.Proof.Cells

/-- The kernel's residual of a two-sided limit: `p` the parameter, `w` the weight, `wm` and `wh` the weighted middle and half width. -/
def kmm (w wm wh p : EReal) : EReal := max (max (p * w - wm) (-(p * w - wm)) - wh) 0
/-- The reference's residual of a two-sided limit. -/
def rmm (lo hi w p : EReal) : EReal := (if p < lo then p - lo else if hi < p then p - hi else 0) * w
/-- The kernel's residual of a linear limit. -/
def klin (ls lo lw rmin rmax p t : EReal) : EReal := if rmin ≤ p ∧ p ≤ rmax then p * ls - lo - t * lw else 0
/-- The reference's residual of a linear limit. -/
def rlin (ls lo lw rmin rmax p t : EReal) : EReal := (ls * p - lo - t) * lw * (if rmin ≤ p ∧ p ≤ rmax then 1 else 0)

/-- The weighted distance outside an interval, by its middle and half width. -/
theorem real_mm (lo hi w p : ℝ) (h : lo ≤ hi) (hw : 0 ≤ w) :
    max (max (p * w - w * (1 / 2) * (lo + hi)) (-(p * w - w * (1 / 2) * (lo + hi))) - w * (1 / 2) * (hi - lo)) 0
      * max (max (p * w - w * (1 / 2) * (lo + hi)) (-(p * w - w * (1 / 2) * (lo + hi))) - w * (1 / 2) * (hi - lo)) 0
      = (if p < lo then p - lo else if hi < p then p - hi else 0) * w * ((if p < lo then p - lo else if hi < p then p - hi else 0) * w) := by
  have e : p * w - w * (1 / 2) * (lo + hi) = w * (p - (lo + hi) / 2) := by ring
  split_ifs with h1 h2
  · have a : w * (p - (lo + hi) / 2) ≤ 0 := mul_nonpos_of_nonneg_of_nonpos hw (by linarith)
    have b : 0 ≤ w * (lo - p) := mul_nonneg hw (by linarith)
    rw [e, max_eq_right (a := w * _) (by linarith), max_eq_left (b := 0) (by nlinarith)]; ring
  · have a : 0 ≤ w * (p - (lo + hi) / 2) := mul_nonneg hw (by linarith)
    have b : 0 ≤ w * (p - hi) := mul_nonneg hw (by linarith)
    rw [e, max_eq_left (a := w * _) (by linarith), max_eq_left (b := 0) (by nlinarith)]; ring
  · have a : 0 ≤ w * (p - lo) := mul_nonneg hw (by linarith)
    have b : 0 ≤ w * (hi - p) := mul_nonneg hw (by linarith)
    rw [e, max_eq_right (b := 0)]
    · ring
    · rw [sub_nonpos]; exact max_le (by nlinarith) (by nlinarith)

theorem coe_max (a b : ℝ) : ((max a b : ℝ) : EReal) = max (a : EReal) b := EReal.coe_strictMono.monotone.map_max

/-- A two-sided limit's square is the reference's: the interval finite, the weight finite and not negative, the parameter anything. -/
theorem mm_cell {lo hi w p : EReal} (hl : lo ≠ ⊥ ∧ lo ≠ ⊤) (hh : hi ≠ ⊥ ∧ hi ≠ ⊤) (h : lo ≤ hi) (hw : 0 ≤ w) (hw' : w ≠ ⊤) :
    kmm w (w * ((1 / 2 : ℝ) : EReal) * (lo + hi)) (w * ((1 / 2 : ℝ) : EReal) * (hi - lo)) p
        * kmm w (w * ((1 / 2 : ℝ) : EReal) * (lo + hi)) (w * ((1 / 2 : ℝ) : EReal) * (hi - lo)) p
      = rmm lo hi w p * rmm lo hi w p := by
  lift lo to ℝ using ⟨hl.2, hl.1⟩
  lift hi to ℝ using ⟨hh.2, hh.1⟩
  lift w to ℝ using ⟨hw', ne_of_gt (lt_of_lt_of_le EReal.bot_lt_zero hw)⟩
  have h' : lo ≤ hi := EReal.coe_le_coe_iff.mp h
  have hw0 : 0 ≤ w := EReal.coe_nonneg.mp hw
  unfold kmm rmm
  rw [← EReal.coe_add, ← EReal.coe_sub, ← EReal.coe_mul, ← EReal.coe_mul, ← EReal.coe_mul]
  rcases eq_or_lt_of_le hw0 with rfl | hpos
  · simp
  induction p using EReal.rec with
  | bot =>
    generalize w * (1 / 2) * (lo + hi) = c
    generalize w * (1 / 2) * (hi - lo) = e
    rw [EReal.bot_mul_coe_of_pos hpos, if_pos (EReal.bot_lt_coe lo)]
    simp [EReal.bot_mul_coe_of_pos hpos, EReal.top_sub_coe]
  | top =>
    generalize w * (1 / 2) * (lo + hi) = c
    generalize w * (1 / 2) * (hi - lo) = e
    rw [EReal.top_mul_coe_of_pos hpos, if_neg (not_lt.mpr le_top), if_pos (EReal.coe_lt_top hi)]
    simp [EReal.top_mul_coe_of_pos hpos, EReal.top_sub_coe]
  | coe p =>
    have e := congrArg (fun x : ℝ => (x : EReal)) (real_mm lo hi w p h' hw0)
    simp only [EReal.coe_mul, coe_max, EReal.coe_sub, EReal.coe_neg, EReal.coe_zero, apply_ite (fun x : ℝ => (x : EReal))] at e
    simp only [EReal.coe_mul, EReal.coe_lt_coe_iff]
    exact e

/-- The square of a sum of three, each turned round. -/
theorem sq_neg3 (x y z : EReal) : (-x - y - z) * (-x - y - z) = (x + y + z) * (x + y + z) := by
  induction x using EReal.rec <;> induction y using EReal.rec <;> induction z using EReal.rec <;> try simp
  case coe.coe.bot a b =>
    rw [← EReal.coe_neg, ← EReal.coe_sub, EReal.coe_sub_bot, EReal.top_mul_top]
  case coe.coe.coe a b c =>
    norm_cast
    ring

/-- A finite number distributes over a sum of three, up to the sum's sign, and up to everything where the sum is infinite. -/
theorem lin_cell {ls lo lw rmin rmax p t : EReal} (h : lw ≠ ⊥ ∧ lw ≠ ⊤) :
    klin (lw * ls) (lw * lo) lw rmin rmax p t * klin (lw * ls) (lw * lo) lw rmin rmax p t
      = rlin ls lo lw rmin rmax p t * rlin ls lo lw rmin rmax p t := by
  unfold klin rlin
  split_ifs with hc
  · rw [mul_one]
    have pos (u x y z : EReal) (h0 : 0 ≤ u) (h1 : u ≠ ⊤) : (x - y - z) * u = x * u - y * u - z * u := by
      simp only [sub_eq_add_neg]
      rw [EReal.right_distrib_of_nonneg_of_ne_top h0 h1, EReal.right_distrib_of_nonneg_of_ne_top h0 h1, neg_mul, neg_mul]
    rcases le_total 0 lw with h0 | h0
    · rw [pos lw _ _ _ h0 h.2]
      congr 1 <;> congr 1 <;> congr 1 <;> ac_rfl
    · have e : lw = -(-lw) := (neg_neg lw).symm
      have n0 : 0 ≤ -lw := by simpa using EReal.neg_le_neg_iff.mpr h0
      have n1 : -lw ≠ ⊤ := by simpa [EReal.neg_eq_top_iff] using h.1
      generalize -lw = u at e n0 n1
      subst e
      have k := sq_neg3 (ls * p * u) (-(lo * u)) (-(t * u))
      have r : (ls * p - lo - t) * -u = -(ls * p * u + -(lo * u) + -(t * u)) := by
        rw [mul_neg, pos u _ _ _ n0 n1]; rfl
      rw [r, neg_mul_neg, ← k]
      have l : p * (-u * ls) - -u * lo - t * -u = -(ls * p * u) - -(lo * u) - -(t * u) := by
        simp only [neg_mul, mul_neg]
        rw [mul_comm u ls, ← mul_assoc, mul_comm p ls, mul_comm u lo]
      rw [l]
  · simp

end Cert.Proof.Cells

end
-- ==== Proof.Blocks.lean ====
/-
  Sums over the natural numbers below a product, by blocks.
-/
module

public import Mathlib.Algebra.BigOperators.Group.Finset.Basic
public import Mathlib.Algebra.BigOperators.Intervals
public import Mathlib.Tactic.Ring
public import Mathlib.Tactic.Linarith
public import Mathlib.Tactic.NormNum

@[expose] public section

noncomputable section

namespace Cert.Proof.Blocks

open Finset

variable {M : Type} [AddCommMonoid M]

/-- The numbers below `a * b`, `b` at a time. -/
theorem sum_blocks (f : ℕ → M) (a b : ℕ) : ∑ i ∈ range (a * b), f i = ∑ i ∈ range a, ∑ j ∈ range b, f (b * i + j) := by
  induction a with
  | zero => simp
  | succ a ih =>
    rw [Nat.succ_mul, sum_range_add, ih, sum_range_succ, Nat.mul_comm a b]

/-- Task by task, lane by lane, group by group, chunk by chunk and row by row is every row and every column. -/
theorem regroup (f : ℕ → ℕ → M) (nk : ℕ) :
    ∑ w ∈ range 32, ∑ x ∈ range 16, ∑ g ∈ range 64, ∑ k ∈ range nk, ∑ r ∈ range 8, f (512 * w + (8 * g + r)) (16 * k + x)
      = ∑ b ∈ range 16384, ∑ c ∈ range (nk * 16), f b c := by
  rw [show (16384 : ℕ) = 32 * 512 from rfl, sum_blocks _ 32 512]
  refine sum_congr rfl fun w _ => ?_
  rw [show (512 : ℕ) = 64 * 8 from rfl, sum_blocks _ 64 8, sum_comm]
  refine sum_congr rfl fun g _ => ?_
  rw [sum_comm]
  simp only [sum_blocks _ nk 16]
  rw [sum_comm (s := range 8)]
  refine sum_congr rfl fun k _ => ?_
  rw [sum_comm]

/-- Eight terms added one after another. -/
theorem add_eight (t : ℕ → M) (a : M) : a + t 0 + t 1 + t 2 + t 3 + t 4 + t 5 + t 6 + t 7 = a + ∑ r ∈ range 8, t r := by
  simp only [sum_range_succ, sum_range_zero, zero_add, ← add_assoc]

end Cert.Proof.Blocks

end
-- ==== Proof.Sums.lean ====
/-
  The sum of what the tasks leave, over the extended reals: every limit's square at every row.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Pointwise
public import proofs.«01_k».proof.Proof.Tables
public import proofs.«01_k».proof.Proof.Cells
public import proofs.«01_k».proof.Proof.Blocks
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.Proof.Cells Cert.Proof.Blocks Finset

/-! ## A step's term at a lane -/

theorem mmStep_at (w wm wh acc p : FVec Ideal S16 .f32) (x : S16.Idx) :
    (mmStep w wm wh acc p x : EReal) = acc x + kmm (w x) (wm x) (wh x) (p x) * kmm (w x) (wm x) (wh x) (p x) := by
  pointwise [mmStep, mmRes, zero16, kmm]
  rfl

theorem linStep_at (ls lo lw rmin rmax acc p t : FVec Ideal S16 .f32) (x : S16.Idx) :
    (linStep ls lo lw rmin rmax acc p t x : EReal)
      = acc x + klin (ls x) (lo x) (lw x) (rmin x) (rmax x) (p x) (t x) * klin (ls x) (lo x) (lw x) (rmin x) (rmax x) (p x) (t x) := by
  pointwise [linStep, linRes, zero16, klin]
  by_cases h1 : rmin x ≤ p x <;> by_cases h2 : p x ≤ rmax x <;> simp [Scalar.select, IntOp.andi, h1, h2]

/-- The word at a lane of sixteen. -/
theorem ld16_at {n : ℕ} [NeZero n] {α : Type} (f : (⟨1, ![n]⟩ : Shape).Idx → α) (k o : ℕ) (x : S16.Idx) :
    ld16 f (16 * k + o) x = at1 f (o + (16 * k + (x 0).val)) := by
  unfold ld16; congr 1; omega

/-- The word a lane's index names in the row that starts at `c`. -/
theorem row16_at {n : ℕ} [NeZero n] (fx : Vec Ideal (⟨1, ![n]⟩ : Shape) .f32) (v : IVec S16 32) (c : BitVec 32) (x : S16.Idx)
    (hv : (v x).toNat < 4096) (hc : c.toNat < 65536) : (row16 fx v c x : EReal) = at1 fx ((v x).toNat + c.toNat) := by
  unfold row16 gat
  show at1 fx ((v x + c).toNat) = _
  rw [BitVec.toNat_add, Nat.mod_eq_of_lt (by omega)]

/-- `n` trips that each add a term at a lane. -/
theorem trips_at (f : ℕ → FVec Ideal S16 .f32 → FVec Ideal S16 .f32) (x : S16.Idx) (t : ℕ → EReal) (a : FVec Ideal S16 .f32) (n : ℕ)
    (h : ∀ k < n, ∀ acc : FVec Ideal S16 .f32, (f k acc x : EReal) = acc x + t k) : (trips f a n x : EReal) = a x + ∑ k ∈ range n, t k := by
  induction n with
  | zero => simp [trips]
  | succ n ih =>
    rw [sum_range_succ, ← add_assoc, ← ih fun k hk => h k (by omega)]
    exact h n (by omega) _

/-! ## A cell -/

variable (mj : Vec Ideal S67108864 .f32) (mp : Vec Ideal S8388608 .f32) (mf : Vec Ideal S7168 .f32) (mn : Vec Ideal S2560 .i32)

/-- The residual of joint limit `c` at row `b`. -/
def resJ (b c : ℕ) : EReal :=
  kmm (at1 mf (1536 + c)) (at1 mf (2560 + c)) (at1 mf (3584 + c)) (at1 mj (b * 4096 + (at1 mn (512 + c) : BitVec 32).toNat))
/-- The residual of model limit `c` at row `b`. -/
def resP (b c : ℕ) : EReal :=
  kmm (at1 mf (0 + c)) (at1 mf (512 + c)) (at1 mf (1024 + c)) (at1 mp (b * 512 + (at1 mn (0 + c) : BitVec 32).toNat))
/-- The residual of linear limit `c` at row `b`. -/
def resL (b c : ℕ) : EReal :=
  klin (at1 mf (4608 + c)) (at1 mf (5120 + c)) (at1 mf (5632 + c)) (at1 mf (6144 + c)) (at1 mf (6656 + c))
    (at1 mp (b * 512 + (at1 mn (1536 + c) : BitVec 32).toNat)) (at1 mp (b * 512 + (at1 mn (2048 + c) : BitVec 32).toNat))

theorem blk_at {N n : ℕ} [NeZero N] [NeZero n] {α : Type} (f : (⟨1, ![N]⟩ : Shape).Idx → α) (o i : ℕ) (h : i < n) :
    at1 (blk f o : (⟨1, ![n]⟩ : Shape).Idx → α) i = at1 f (o + i) := by
  rw [at1_ix1 _ h]; rfl

variable (hR : InRange mn)
include hR

theorem jStep_at (w g k : ℕ) (hk : k < 64) (x : S16.Idx) (acc : FVec Ideal S16 .f32) :
    (jStep mn mf (blk mj (jOff w g)) k acc x : EReal)
      = acc x + ∑ r ∈ range 8, resJ mj mf mn (512 * w + (8 * g + r)) (16 * k + (x 0).val) * resJ mj mf mn (512 * w + (8 * g + r)) (16 * k + (x 0).val) := by
  have hx : (x 0).val < 16 := (x 0).isLt
  have hv : (ld16 mn (16 * k + 512) x).toNat < 4096 := by
    rw [ld16_at]; exact hR.1 _ (by omega) (by omega)
  have e (r : ℕ) (c : BitVec 32) (hr : r < 8) (hc : c = BitVec.ofNat 32 (4096 * r)) :
      (row16 (blk mj (jOff w g) : Vec Ideal S32768 .f32) (ld16 mn (16 * k + 512)) c x : EReal)
        = at1 mj ((512 * w + (8 * g + r)) * 4096 + (at1 mn (512 + (16 * k + (x 0).val)) : BitVec 32).toNat) := by
    have hc' : c.toNat = 4096 * r := by subst hc; rw [BitVec.toNat_ofNat, Nat.mod_eq_of_lt (by omega)]
    rw [row16_at _ _ _ _ hv (by omega), blk_at _ _ _ (by omega), ld16_at, hc']
    exact congrArg (at1 mj) (by unfold jOff; ring)
  unfold jStep jRows
  rw [← add_eight]
  simp only [List.foldl_cons, List.foldl_nil, mmStep_at]
  rw [e 0 _ (by omega) rfl, e 1 _ (by omega) rfl, e 2 _ (by omega) rfl, e 3 _ (by omega) rfl, e 4 _ (by omega) rfl, e 5 _ (by omega) rfl,
    e 6 _ (by omega) rfl, e 7 _ (by omega) rfl]
  simp only [ld16_at, resJ]

/-- The word of the model parameters that row `r` of a block's row names. -/
theorem prow_at (w g k o : ℕ) (ho : o + (16 * k + 15) < 512 ∨ 1536 ≤ o ∧ o + (16 * k + 15) < 2560) (x : S16.Idx) (r : ℕ) (c : BitVec 32) (hr : r < 8)
    (hc : c = BitVec.ofNat 32 (512 * r)) :
    (row16 (blk mp (pOff w g) : Vec Ideal S4096 .f32) (ld16 mn (16 * k + o)) c x : EReal)
      = at1 mp ((512 * w + (8 * g + r)) * 512 + (at1 mn (o + (16 * k + (x 0).val)) : BitVec 32).toNat) := by
  have hx : (x 0).val < 16 := (x 0).isLt
  have hv : (ld16 mn (16 * k + o) x).toNat < 512 := by
    rw [ld16_at]; exact hR.2 _ (by omega)
  have hc' : c.toNat = 512 * r := by subst hc; rw [BitVec.toNat_ofNat, Nat.mod_eq_of_lt (by omega)]
  rw [row16_at _ _ _ _ (by omega) (by omega), blk_at _ _ _ (by omega), ld16_at, hc']
  exact congrArg (at1 mp) (by unfold pOff; ring)

theorem pStep_at (w g k : ℕ) (hk : k < 32) (x : S16.Idx) (acc : FVec Ideal S16 .f32) :
    (pStep mn mf (blk mp (pOff w g)) k acc x : EReal)
      = acc x + ∑ r ∈ range 8, resP mp mf mn (512 * w + (8 * g + r)) (16 * k + (x 0).val) * resP mp mf mn (512 * w + (8 * g + r)) (16 * k + (x 0).val) := by
  have e := prow_at mp mn hR w g k 0 (by omega) x
  unfold pStep pRows
  rw [← add_eight]
  simp only [List.foldl_cons, List.foldl_nil, mmStep_at]
  rw [e 0 _ (by omega) rfl, e 1 _ (by omega) rfl, e 2 _ (by omega) rfl, e 3 _ (by omega) rfl, e 4 _ (by omega) rfl, e 5 _ (by omega) rfl,
    e 6 _ (by omega) rfl, e 7 _ (by omega) rfl]
  simp only [ld16_at, resP]

theorem lStep_at (w g k : ℕ) (hk : k < 32) (x : S16.Idx) (acc : FVec Ideal S16 .f32) :
    (lStep mn mf (blk mp (pOff w g)) k acc x : EReal)
      = acc x + ∑ r ∈ range 8, resL mp mf mn (512 * w + (8 * g + r)) (16 * k + (x 0).val) * resL mp mf mn (512 * w + (8 * g + r)) (16 * k + (x 0).val) := by
  have e := prow_at mp mn hR w g k 1536 (by omega) x
  have e' := prow_at mp mn hR w g k 2048 (by omega) x
  unfold lStep pRows
  rw [← add_eight]
  simp only [List.foldl_cons, List.foldl_nil, linStep_at]
  rw [e 0 _ (by omega) rfl, e 1 _ (by omega) rfl, e 2 _ (by omega) rfl, e 3 _ (by omega) rfl, e 4 _ (by omega) rfl, e 5 _ (by omega) rfl,
    e 6 _ (by omega) rfl, e 7 _ (by omega) rfl,
    e' 0 _ (by omega) rfl, e' 1 _ (by omega) rfl, e' 2 _ (by omega) rfl, e' 3 _ (by omega) rfl, e' 4 _ (by omega) rfl, e' 5 _ (by omega) rfl,
    e' 6 _ (by omega) rfl, e' 7 _ (by omega) rfl]
  simp only [ld16_at, resL]

/-! ## A task, and all of them -/

omit hR in
/-- What a group of eight rows adds in lane `l` of task `w`. -/
def grp (w l g : ℕ) : EReal :=
  ∑ k ∈ range 64, ∑ r ∈ range 8, resJ mj mf mn (512 * w + (8 * g + r)) (16 * k + l) * resJ mj mf mn (512 * w + (8 * g + r)) (16 * k + l)
    + ∑ k ∈ range 32, ∑ r ∈ range 8, resP mp mf mn (512 * w + (8 * g + r)) (16 * k + l) * resP mp mf mn (512 * w + (8 * g + r)) (16 * k + l)
    + ∑ k ∈ range 32, ∑ r ∈ range 8, resL mp mf mn (512 * w + (8 * g + r)) (16 * k + l) * resL mp mf mn (512 * w + (8 * g + r)) (16 * k + l)

omit hR in
theorem zero16_at (x : S16.Idx) : ((zero16 : FVec Ideal S16 .f32) x : EReal) = 0 := by pointwise [zero16]

/-- What task `w` leaves in lane `x`. -/
theorem taskVal_at (w : ℕ) (x : S16.Idx) : (taskVal mj mp mf mn w x : EReal) = ∑ g ∈ range 64, grp mj mp mf mn w (x 0).val g := by
  unfold taskVal
  refine (trips_at _ x (grp mj mp mf mn w (x 0).val) _ _ fun g _ acc => ?_).trans ?_
  · unfold gStep
    rw [trips_at _ x _ _ _ fun k hk a => lStep_at mp mf mn hR w g k hk x a, trips_at _ x _ _ _ fun k hk a => pStep_at mp mf mn hR w g k hk x a,
      trips_at _ x _ _ _ fun k hk a => jStep_at mj mf mn hR w g k hk x a, grp, ← add_assoc, ← add_assoc]
  · rw [zero16_at, zero_add]

/-- The sum of the tasks' words is the sum of every limit's square over every row. -/
theorem total :
    (Host.reduceAdd (outVal mj mp mf mn) (constant S_ .f32 0x00000000#32) reducesTo_S512_S_d0 h_S_ : Vec Ideal S_ .f32)
      = fun _ => (∑ b ∈ range 16384, ∑ c ∈ range 1024, resJ mj mf mn b c * resJ mj mf mn b c
          + ∑ b ∈ range 16384, ∑ c ∈ range 512, resP mp mf mn b c * resP mp mf mn b c
          + ∑ b ∈ range 16384, ∑ c ∈ range 512, resL mp mf mn b c * resL mp mf mn b c : EReal) := by
  funext i
  pointwise
  have e (k : Fin 512) : (outVal mj mp mf mn (ix1 k) : EReal) = ∑ g ∈ range 64, grp mj mp mf mn (k.val / 16) (k.val % 16) g := by
    unfold outVal at1
    exact taskVal_at mj mp mf mn hR _ _
  rw [Finset.sum_congr rfl fun k _ => e k, Fin.sum_univ_eq_sum_range (fun k => ∑ g ∈ range 64, grp mj mp mf mn (k / 16) (k % 16) g) 512,
    show (512 : ℕ) = 32 * 16 from rfl, sum_blocks _ 32 16]
  have e' (w x : ℕ) (hx : x ∈ range 16) : ∑ g ∈ range 64, grp mj mp mf mn ((16 * w + x) / 16) ((16 * w + x) % 16) g = ∑ g ∈ range 64, grp mj mp mf mn w x g := by
    have := mem_range.mp hx
    rw [show (16 * w + x) / 16 = w by omega, show (16 * w + x) % 16 = x by omega]
  rw [Finset.sum_congr rfl fun w _ => Finset.sum_congr rfl fun x hx => e' w x hx]
  simp only [grp, sum_add_distrib]
  rw [regroup (fun b c => resJ mj mf mn b c * resJ mj mf mn b c) 64, regroup (fun b c => resP mp mf mn b c * resP mp mf mn b c) 32,
    regroup (fun b c => resL mp mf mn b c * resL mp mf mn b c) 32]

end Cert.Proof.KernelIdeal

end
-- ==== Proof.RefValue.lean ====
/-
  The reference's result over the extended reals, as three sums of squares over the batch and the columns.
-/
module

public import proofs.«01_k».proof.Defs
public import Idealize.ShloMosaic.Lib.Pointwise
public import Idealize.ShloMosaic.Lib.ReduceAll
public import Idealize.ShloMosaic.Lib.StableHlo.Predicate
public import proofs.«01_k».proof.Proof.Cells
public import proofs.«01_k».proof.Proof.Gen.ReferenceIdeal
public import proofs.«01_k».proof.Proof.Gen.ReferenceIdeal.Run

@[expose] public section

noncomputable section

namespace Cert.Proof.ReferenceIdeal

open Cert.ReferenceIdeal Cert.ReferenceIdeal.Gen Cert.Proof.Cells
open Idealize.ShloMosaic Idealize.ShloMosaic.StableHlo

/-! ## Columns of a table, taken by number -/

section
variable {α : Type}

/-- The dimension numbers of `x[:, idx]` for `x : [R, N]` and `idx : [n, 1]`. -/
abbrev takeColsDims (R N n : Nat) (wf : GatherDims.WF ⟨2, ![R, N]⟩ ⟨2, ![n, 1]⟩ ⟨2, ![R, n]⟩ [0] [1] [] [1] [] 1 ![R, 1]) :
    GatherDims ⟨2, ![R, N]⟩ ⟨2, ![n, 1]⟩ ⟨2, ![R, n]⟩ where
  offsetDims := [0]
  collapsedSliceDims := [1]
  operandBatchingDims := []
  startIndicesBatchingDims := []
  startIndexMap := [1]
  indexVectorDim := 1
  sliceSizes := ![R, 1]
  wf := wf

/-- `x[:, idx]` at `(b, c)`: row `b` of the column that `idx` names at `c`, clamped to the last. -/
theorem gather_col {R N n : Nat} (hN : 0 < N)
    (wf : GatherDims.WF ⟨2, ![R, N]⟩ ⟨2, ![n, 1]⟩ ⟨2, ![R, n]⟩ [0] [1] [] [1] [] 1 ![R, 1])
    (x : (⟨2, ![R, N]⟩ : Shape).Idx → α) (idx : IVec ⟨2, ![n, 1]⟩ 32) (b : Fin R) (c : Fin n) :
    Host.gather (takeColsDims R N n wf) x idx (ix2 b c)
      = x (ix2 b ⟨min (idx (ix2 c 0)).toInt.toNat (N - 1), by omega⟩) := by
  unfold Host.gather
  congr 1
  funext a
  refine Fin.ext ?_
  show (takeColsDims R N n wf).start (ix2 b c) idx a + (takeColsDims R N n wf).batchCoord (ix2 b c) a
      + (takeColsDims R N n wf).offCoord (ix2 b c) a = _
  rw [GatherDims.batchCoord_eq_zero _ _ _ List.not_mem_nil]
  match a with
  | ⟨0, _⟩ =>
    have hm : (0 : Fin 2) ∉ (takeColsDims R N n wf).startIndexMap := by simp
    have hk : (0 : Fin 2) ∈ (takeColsDims R N n wf).sKept := (GatherDims.mem_sKept _ _).2 ⟨by simp, by simp⟩
    show (takeColsDims R N n wf).start (ix2 b c) idx 0 + 0 + (takeColsDims R N n wf).offCoord (ix2 b c) 0 = b.val
    unfold GatherDims.start GatherDims.offCoord
    rw [dif_neg hm, dif_pos hk]
    simp only [Nat.zero_add]
    rfl
  | ⟨1, _⟩ =>
    show (takeColsDims R N n wf).start (ix2 b c) idx 1 + 0 + (takeColsDims R N n wf).offCoord (ix2 b c) 1 = _
    rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ (takeColsDims R N n wf).startIndexMap from List.mem_singleton.mpr rfl)]
    have hsi : (takeColsDims R N n wf).siIdx (ix2 b c) ⟨List.idxOf (1 : Fin 2) (takeColsDims R N n wf).startIndexMap,
        List.idxOf_lt_length_iff.2 (List.mem_singleton.mpr rfl)⟩ = ix2 c 0 := by
      funext b'; refine Fin.ext ?_
      match b' with
      | ⟨0, _⟩ => rfl
      | ⟨1, _⟩ => rfl
    rw [hsi]
    rfl
end

/-! ## A number in range, as a signed word -/

theorem not_neg {n : ℕ} (hn : n < 2 ^ 31) {v : BitVec 32} (h : v.toNat < n) : IntOp.cmpi .slt v 0#32 = 0#1 := by
  have e := (Predicate.slt_iff_toNat (a := v) (b := 0#32) (by omega) (by decide)).not.2 (by simp)
  revert e
  generalize IntOp.cmpi .slt v 0#32 = q
  revert q; decide

theorem in_bounds {n : ℕ} (hn : n < 2 ^ 31) {v : BitVec 32} (h : v.toNat ≤ n) :
    IntOp.andi (IntOp.cmpi .sge v 0#32) (IntOp.cmpi .sle v (BitVec.ofNat 32 n)) = 1#1 := by
  have hm : (BitVec.ofNat 32 n).toNat = n := by rw [BitVec.toNat_ofNat]; omega
  exact IntOp.andi_eq_one.2 ⟨(Predicate.sge_iff_toNat (by omega) (by decide)).2 (by simp),
    (Predicate.sle_iff_toNat (by omega) (by omega)).2 (by omega)⟩

theorem clamp {n : ℕ} (hn : n < 2 ^ 31) {v : BitVec 32} (h : v.toNat < n) : min v.toInt.toNat (n - 1) = v.toNat := by
  rw [Predicate.toInt_eq_toNat_of_lt (by omega)]
  omega

/-! ## A take as the reference writes it: negative numbers counted from the end, numbers out of range masked -/

/-- The column of start indices of a take, where no number is negative. -/
theorem starts_at {n N : ℕ} (hN : N < 2 ^ 31) (i z k : IVec ⟨1, ![n]⟩ 32) (hz : ∀ c, z c = 0#32) (h : ∀ c, (i c).toNat < N)
    (hb : (⟨1, ![n]⟩ : Shape).BroadcastsInDim ⟨2, ![n, 1]⟩ ![0]) (c : Fin n) (e : Fin 1) :
    broadcastInDim ⟨2, ![n, 1]⟩ ![0] hb (select (cmpi .slt i z) (addi i k) i) (ix2 c e) = i (ix1 c) := by
  have hs : select (cmpi .slt i z) (addi i k) i = i := funext fun q => by
    show Scalar.select (IntOp.cmpi .slt (i q) (z q)) _ _ = _
    rw [hz, not_neg hN (h q)]
    rfl
  rw [hs]
  unfold broadcastInDim
  refine congrArg i (funext fun a => ?_)
  obtain rfl : a = 0 := Subsingleton.elim _ _
  have hc := c.isLt
  apply Fin.ext
  split
  · next h1 => change n = 1 at h1; show (0 : Nat) = c.val; omega
  · rfl

/-- The masked take at `(b, c)`, where every number is in range: row `b` of the column that the number at `c` names. -/
theorem take_at {α : Type} {R N n : ℕ} {axes : List (Fin 2)} {u : Shape} (hN : N < 2 ^ 31)
    (wf : GatherDims.WF ⟨2, ![R, N]⟩ ⟨2, ![n, 1]⟩ ⟨2, ![R, n]⟩ [0] [1] [] [1] [] 1 ![R, 1])
    (x : (⟨2, ![R, N]⟩ : Shape).Idx → α) (i : IVec ⟨1, ![n]⟩ 32) (h : ∀ c, (i c).toNat < N)
    (s z k : IVec ⟨2, ![n, 1]⟩ 32) (hs : ∀ c e, s (ix2 c e) = i (ix1 c)) (hz : ∀ j, z j = 0#32) (hk : ∀ j, k j = BitVec.ofNat 32 (N - 1))
    (init : u.Idx → BitVec 1) (hu : 0 < u.numel) (hi : init (Shape.Idx.first hu) = 1#1)
    (hr : (⟨2, ![n, 1]⟩ : Shape).ReducesTo axes ⟨1, ![n]⟩) (hb : (⟨1, ![n]⟩ : Shape).BroadcastsInDim ⟨2, ![R, n]⟩ ![1])
    (y : (⟨2, ![R, n]⟩ : Shape).Idx → α) (b : Fin R) (c : Fin n) :
    select (broadcastInDim ⟨2, ![R, n]⟩ ![1] hb (Host.reduce IntOp.andi (andi (cmpi .sge s z) (cmpi .sle s k)) init hr hu))
        (Host.gather (takeColsDims R N n wf) x s) y (ix2 b c) = x (ix2 b ⟨(i (ix1 c)).toNat, h _⟩) := by
  have hm : Host.reduce IntOp.andi (andi (cmpi .sge s z) (cmpi .sle s k)) init hr hu = fun _ => 1#1 := funext fun q =>
    Host.reduce_andi_one _ init hr hu q hi fun j => by
      show IntOp.andi (IntOp.cmpi .sge (s j) (z j)) (IntOp.cmpi .sle (s j) (k j)) = 1#1
      have e : s j = i (ix1 (j 0)) := (congrArg s (ix2_eta j).symm).trans (hs _ _)
      have hj := h (ix1 (j 0))
      rw [hz, hk, e]
      exact in_bounds (n := N - 1) (by omega) (by omega)
  rw [hm]
  have hc := h (ix1 c)
  refine (gather_col (by omega) wf x s b c).trans (congrArg (fun k => x (ix2 b k)) (Fin.ext ?_))
  show min (s (ix2 c 0)).toInt.toNat (N - 1) = _
  rw [hs c 0]
  exact clamp hN hc

/-- The take of columns of the model's parameters. -/
abbrev take512 (x : FVec Ideal S16384x512 .f32) (i : IVec S512 32) : FVec Ideal S16384x512 .f32 :=
  let s := broadcastInDim S512x1 ![0] bcast_S512_S512x1_0 (select (cmpi .slt i (broadcastInDim S512 ![] bcast_S_S512 (constantI S_ 32 0#32)))
    (addi i (broadcastInDim S512 ![] bcast_S_S512 (constantI S_ 32 512#32))) i)
  select (broadcastInDim S16384x512 ![1] bcast_S512_S16384x512_1 (Host.reduce IntOp.andi
      (andi (cmpi .sge s (broadcastInDim S512x1 ![] bcast_S_S512x1 (constantI S_ 32 0#32)))
        (cmpi .sle s (broadcastInDim S512x1 ![0, 1] bcast_S1x1_S512x1_0_1 (broadcastInDim S1x1 ![1] bcast_S1_S1x1_1 (constantI S1 32 511#32)))))
      (constantI S_ 1 1#1) reducesTo_S512x1_S512_d1 h_S_))
    (Host.gather gather_S16384x512_S512x1_S16384x512_0_1_n_n_1_1_163841 x s)
    (broadcastInDim S16384x512 ![] bcast_S_S16384x512 (constant S_ .f32 0x7FC00000#32))

theorem take512_at (x : FVec Ideal S16384x512 .f32) (i : IVec S512 32) (h : ∀ k, (i k).toNat < 512) (b : Fin 16384) (c : Fin 512) :
    take512 x i (ix2 b c) = x (ix2 b ⟨(i (ix1 c)).toNat, h _⟩) :=
  take_at (N := 512) (by decide) _ x i h _ _ _ (starts_at (N := 512) (by decide) i _ _ (fun _ => rfl) h _) (fun _ => rfl) (fun _ => rfl)
    (constantI S_ 1 1#1) h_S_ rfl reducesTo_S512x1_S512_d1 _ _ b c

/-- The take of columns of the joints' parameters. -/
abbrev take1024 (x : FVec Ideal S16384x4096 .f32) (i : IVec S1024 32) : FVec Ideal S16384x1024 .f32 :=
  let s := broadcastInDim S1024x1 ![0] bcast_S1024_S1024x1_0 (select (cmpi .slt i (broadcastInDim S1024 ![] bcast_S_S1024 (constantI S_ 32 0#32)))
    (addi i (broadcastInDim S1024 ![] bcast_S_S1024 (constantI S_ 32 4096#32))) i)
  select (broadcastInDim S16384x1024 ![1] bcast_S1024_S16384x1024_1 (Host.reduce IntOp.andi
      (andi (cmpi .sge s (broadcastInDim S1024x1 ![] bcast_S_S1024x1 (constantI S_ 32 0#32)))
        (cmpi .sle s (broadcastInDim S1024x1 ![0, 1] bcast_S1x1_S1024x1_0_1 (broadcastInDim S1x1 ![1] bcast_S1_S1x1_1 (constantI S1 32 4095#32)))))
      (constantI S_ 1 1#1) reducesTo_S1024x1_S1024_d1 h_S_))
    (Host.gather gather_S16384x4096_S1024x1_S16384x1024_0_1_n_n_1_1_163841 x s)
    (broadcastInDim S16384x1024 ![] bcast_S_S16384x1024 (constant S_ .f32 0x7FC00000#32))

theorem take1024_at (x : FVec Ideal S16384x4096 .f32) (i : IVec S1024 32) (h : ∀ k, (i k).toNat < 4096) (b : Fin 16384) (c : Fin 1024) :
    take1024 x i (ix2 b c) = x (ix2 b ⟨(i (ix1 c)).toNat, h _⟩) :=
  take_at (N := 4096) (by decide) _ x i h _ _ _ (starts_at (N := 4096) (by decide) i _ _ (fun _ => rfl) h _) (fun _ => rfl) (fun _ => rfl)
    (constantI S_ 1 1#1) h_S_ rfl reducesTo_S1024x1_S1024_d1 _ _ b c

/-! ## The residuals -/

/-- A vector along the rows. -/
abbrev row512 (v : FVec Ideal S512 .f32) : FVec Ideal S16384x512 .f32 :=
  broadcastInDim S16384x512 ![0, 1] bcast_S1x512_S16384x512_0_1 (broadcastInDim S1x512 ![1] bcast_S512_S1x512_1 v)
abbrev row1024 (v : FVec Ideal S1024 .f32) : FVec Ideal S16384x1024 .f32 :=
  broadcastInDim S16384x1024 ![0, 1] bcast_S1x1024_S16384x1024_0_1 (broadcastInDim S1x1024 ![1] bcast_S1024_S1x1024_1 v)

theorem row512_at (v : FVec Ideal S512 .f32) (b : Fin 16384) (c : Fin 512) : row512 v (ix2 b c) = v (ix1 c) := by pointwise
theorem row1024_at (v : FVec Ideal S1024 .f32) (b : Fin 16384) (c : Fin 1024) : row1024 v (ix2 b c) = v (ix1 c) := by pointwise

section
variable {s : Shape}

/-- The residuals of two-sided limits. -/
abbrev mmV (lo hi w z p : FVec Ideal s .f32) : FVec Ideal s .f32 :=
  mulf (select (cmpf .olt p lo) (subf p lo) (select (cmpf .ogt p hi) (subf p hi) z)) w

/-- The residuals of linear limits. -/
abbrev linV (ls lo lw rmin rmax p t : FVec Ideal s .f32) : FVec Ideal s .f32 :=
  mulf (mulf (subf (subf (mulf ls p) lo) t) lw) (uitofp .f32 (andi (cmpf .oge p rmin) (cmpf .ole p rmax)))

theorem select_ite {α : Type} (p : Prop) [Decidable p] (a b : α) : Scalar.select (BitVec.ofBool (decide p)) a b = if p then a else b := by
  by_cases h : p
  · simp [Scalar.select, h]
  · simp [Scalar.select, h]

theorem mmV_at (lo hi w z p : FVec Ideal s .f32) (i : s.Idx) (hz : z i = (0 : EReal)) : mmV lo hi w z p i = rmm (lo i) (hi i) (w i) (p i) := by
  show Scalar.select (BitVec.ofBool (decide (p i < lo i))) (p i - lo i : EReal)
    (Scalar.select (BitVec.ofBool (decide (hi i < p i))) (p i - hi i : EReal) (z i)) * w i = _
  rw [select_ite, select_ite, hz]
  rfl

theorem linV_at (ls lo lw rmin rmax p t : FVec Ideal s .f32) (i : s.Idx) :
    linV ls lo lw rmin rmax p t i = rlin (ls i) (lo i) (lw i) (rmin i) (rmax i) (p i) (t i) := by
  have e : FloatOps.uitofp (F := Ideal) .f32 (IntOp.andi (BitVec.ofBool (decide (rmin i ≤ p i))) (BitVec.ofBool (decide (p i ≤ rmax i))))
      = (if rmin i ≤ p i ∧ p i ≤ rmax i then 1 else 0 : EReal) := by
    have u (w : BitVec 1) : FloatOps.uitofp (F := Ideal) .f32 w = ((w.toNat : ℝ) : EReal) := rfl
    rw [u]
    by_cases h1 : rmin i ≤ p i <;> by_cases h2 : p i ≤ rmax i <;> simp [h1, h2, IntOp.andi]
  show (ls i * p i - lo i - t i : EReal) * lw i * _ = _
  exact congrArg ((ls i * p i - lo i - t i : EReal) * lw i * ·) e
end

/-! ## The sums -/

/-- The sum of the squares of an array of the residuals of 512 limits. -/
theorem sum512 (X : FVec Ideal S16384x512 .f32) (i : S_.Idx) :
    Host.reduceAdd (mulf X X) (constant S_ .f32 0x00000000#32) reducesTo_S16384x512_S_d0_1 h_S_ i
      = (∑ b : Fin 16384, ∑ c : Fin 512, X (ix2 b c) * X (ix2 b c) : EReal) := by
  pointwise

/-- The same of 1024 limits. -/
theorem sum1024 (X : FVec Ideal S16384x1024 .f32) (i : S_.Idx) :
    Host.reduceAdd (mulf X X) (constant S_ .f32 0x00000000#32) reducesTo_S16384x1024_S_d0_1 h_S_ i
      = (∑ b : Fin 16384, ∑ c : Fin 1024, X (ix2 b c) * X (ix2 b c) : EReal) := by
  pointwise

section
variable (a0 : FVec Ideal S16384x512 .f32) (a1 : FVec Ideal S16384x4096 .f32) (a2 a3 a4 : FVec Ideal S512 .f32) (a5 a6 a7 : FVec Ideal S1024 .f32)
  (a8 a9 a10 a11 a12 : FVec Ideal S512 .f32) (a13 : IVec S512 32) (a14 : IVec S1024 32) (a15 a16 : IVec S512 32)

/-- The residuals of the three kinds of limits. -/
abbrev X512 : FVec Ideal S16384x512 .f32 :=
  mmV (row512 a2) (row512 a3) (row512 a4) (broadcastInDim S16384x512 ![] bcast_S_S16384x512 (id (constant S_ .f32 0x00000000#32))) (take512 a0 a13)
abbrev X1024 : FVec Ideal S16384x1024 .f32 :=
  mmV (row1024 a5) (row1024 a6) (row1024 a7) (broadcastInDim S16384x1024 ![] bcast_S_S16384x1024 (id (constant S_ .f32 0x00000000#32))) (take1024 a1 a14)
abbrev XL : FVec Ideal S16384x512 .f32 :=
  linV (row512 a8) (row512 a9) (row512 a10) (row512 a11) (row512 a12) (take512 a0 a15) (take512 a0 a16)

/-- The reference's result of its arguments. -/
abbrev loss : FVec Ideal S_ .f32 :=
  addf (addf (Host.reduceAdd (mulf (X512 a0 a2 a3 a4 a13) (X512 a0 a2 a3 a4 a13)) (constant S_ .f32 0x00000000#32) reducesTo_S16384x512_S_d0_1 h_S_)
      (Host.reduceAdd (mulf (X1024 a1 a5 a6 a7 a14) (X1024 a1 a5 a6 a7 a14)) (constant S_ .f32 0x00000000#32) reducesTo_S16384x1024_S_d0_1 h_S_))
    (Host.reduceAdd (mulf (XL a0 a8 a9 a10 a11 a12 a15 a16) (XL a0 a8 a9 a10 a11 a12 a15 a16)) (constant S_ .f32 0x00000000#32) reducesTo_S16384x512_S_d0_1 h_S_)

variable {a13 a14 a15 a16}

theorem X512_at (h : ∀ k, (a13 k).toNat < 512) (b : Fin 16384) (c : Fin 512) :
    X512 a0 a2 a3 a4 a13 (ix2 b c) = rmm (a2 (ix1 c)) (a3 (ix1 c)) (a4 (ix1 c)) (a0 (ix2 b ⟨(a13 (ix1 c)).toNat, h _⟩)) := by
  refine (mmV_at _ _ _ _ _ _ (by pointwise [id])).trans ?_
  rw [row512_at, row512_at, row512_at, take512_at a0 a13 h]

theorem X1024_at (h : ∀ k, (a14 k).toNat < 4096) (b : Fin 16384) (c : Fin 1024) :
    X1024 a1 a5 a6 a7 a14 (ix2 b c) = rmm (a5 (ix1 c)) (a6 (ix1 c)) (a7 (ix1 c)) (a1 (ix2 b ⟨(a14 (ix1 c)).toNat, h _⟩)) := by
  refine (mmV_at _ _ _ _ _ _ (by pointwise [id])).trans ?_
  rw [row1024_at, row1024_at, row1024_at, take1024_at a1 a14 h]

theorem XL_at (h : ∀ k, (a15 k).toNat < 512) (h' : ∀ k, (a16 k).toNat < 512) (b : Fin 16384) (c : Fin 512) :
    XL a0 a8 a9 a10 a11 a12 a15 a16 (ix2 b c) = rlin (a8 (ix1 c)) (a9 (ix1 c)) (a10 (ix1 c)) (a11 (ix1 c)) (a12 (ix1 c))
      (a0 (ix2 b ⟨(a15 (ix1 c)).toNat, h _⟩)) (a0 (ix2 b ⟨(a16 (ix1 c)).toNat, h' _⟩)) := by
  refine (linV_at _ _ _ _ _ _ _ _).trans ?_
  rw [row512_at, row512_at, row512_at, row512_at, row512_at, take512_at a0 a15 h, take512_at a0 a16 h']

theorem loss_at (i : S_.Idx) :
    loss a0 a1 a2 a3 a4 a5 a6 a7 a8 a9 a10 a11 a12 a13 a14 a15 a16 i
      = ((∑ b : Fin 16384, ∑ c : Fin 512, X512 a0 a2 a3 a4 a13 (ix2 b c) * X512 a0 a2 a3 a4 a13 (ix2 b c))
        + (∑ b : Fin 16384, ∑ c : Fin 1024, X1024 a1 a5 a6 a7 a14 (ix2 b c) * X1024 a1 a5 a6 a7 a14 (ix2 b c))
        + (∑ b : Fin 16384, ∑ c : Fin 512, XL a0 a8 a9 a10 a11 a12 a15 a16 (ix2 b c) * XL a0 a8 a9 a10 a11 a12 a15 a16 (ix2 b c)) : EReal) :=
  congrArg₂ (fun x y : EReal => x + y) (congrArg₂ (fun x y : EReal => x + y) (sum512 _ i) (sum1024 _ i)) (sum512 _ i)
end

/-- The reference's result at the arguments in a memory. -/
theorem res_eq (m : (ℓ : Loc nD τ sig) → Buf (Elt Ideal) ℓ) (c : Dev nD) :
    Value.res_main_v64 m c = loss (m (c.tc.loc main_arg0)) (m (c.tc.loc main_arg1)) (m (c.tc.loc main_arg2)) (m (c.tc.loc main_arg3))
      (m (c.tc.loc main_arg4)) (m (c.tc.loc main_arg5)) (m (c.tc.loc main_arg6)) (m (c.tc.loc main_arg7)) (m (c.tc.loc main_arg8))
      (m (c.tc.loc main_arg9)) (m (c.tc.loc main_arg10)) (m (c.tc.loc main_arg11)) (m (c.tc.loc main_arg12)) (m (c.tc.loc main_arg13))
      (m (c.tc.loc main_arg14)) (m (c.tc.loc main_arg15)) (m (c.tc.loc main_arg16)) := by
  unfold Value.res_main_v64
  rfl

end Cert.Proof.ReferenceIdeal

end
-- ==== Proof.Algebraic.lean ====
/-
  The value claim.
-/
module

public import proofs.«01_k».proof.Defs
public import proofs.«01_k».proof.Proof.Frames
public import proofs.«01_k».proof.Proof.Limits
public import proofs.«01_k».proof.Proof.Gen.Pre_limits_well_posed
public import proofs.«01_k».proof.Proof.Reads
public import proofs.«01_k».proof.Proof.Sums
public import proofs.«01_k».proof.Proof.RefValue

@[expose] public section

noncomputable section

namespace Cert.Proof

open Idealize.ShloMosaic Idealize.SL.Sem

/-- The kernel on exact floats, under the precondition of the value claim. -/
theorem frame_kernelIdeal_limits : Cert.quiescent_KernelIdeal_pre_limits_well_posed :=
  fun m ρ h => KernelIdeal.frame (F := Ideal) m ρ fun d => (Pre.limits_of_pre (h d)).1

/-- The same under the precondition of the value claim. -/
theorem frame_reference_limits : Cert.quiescent_ReferenceIdeal_pre_limits_well_posed :=
  fun m ρ _ => frame_reference m ρ trivial

section
open Cert.KernelIdeal Cert.KernelIdeal.Gen KernelIdeal Cells Finset
open ReferenceIdeal (X512 X1024 XL X512_at X1024_at XL_at loss loss_at)

variable (m : (ℓ : Loc nD τ sig) → Buf (Elt Ideal) ℓ) (d : Dev nD)

/-- The reference's result at the arguments in the kernel's memory. -/
abbrev lossAt : FVec Ideal Cert.ReferenceIdeal.S_ .f32 :=
  loss (a0 m d) (a1 m d) (a2 m d) (a3 m d) (a4 m d) (a5 m d) (a6 m d) (a7 m d) (a8 m d) (a9 m d) (a10 m d) (a11 m d) (a12 m d)
    (a13 m d) (a14 m d) (a15 m d) (a16 m d)

/-- A model limit's square. -/
theorem resP_sq (h : Pre.Limits (a2 m d) (a3 m d) (a4 m d)) (h13 : ∀ i, (a13 m d i).toNat < 512) (b : Fin 16384) (c : Fin 512) :
    resP (cp m d) (cf m d) (cn m d) b c * resP (cp m d) (cf m d) (cn m d) b c
      = (X512 (a0 m d) (a2 m d) (a3 m d) (a4 m d) (a13 m d) (ix2 b c) * X512 (a0 m d) (a2 m d) (a3 m d) (a4 m d) (a13 m d) (ix2 b c) : EReal) := by
  obtain ⟨hl, hh, hle, hw, hw'⟩ := h (ix1 c)
  rw [X512_at _ _ _ _ h13, ← mm_cell hl hh hle hw hw']
  unfold resP
  rw [cf_mm_w m d c.isLt, cf_mm_m m d c.isLt, cf_mm_h m d c.isLt, Nat.zero_add, cn_mm m d c.isLt, at1_ix1 (a13 m d) c.isLt,
    cp_at m d b.isLt (h13 _)]

/-- A joint limit's square. -/
theorem resJ_sq (h : Pre.Limits (a5 m d) (a6 m d) (a7 m d)) (h14 : ∀ i, (a14 m d i).toNat < 4096) (b : Fin 16384) (c : Fin 1024) :
    resJ (cj m d) (cf m d) (cn m d) b c * resJ (cj m d) (cf m d) (cn m d) b c
      = (X1024 (a1 m d) (a5 m d) (a6 m d) (a7 m d) (a14 m d) (ix2 b c) * X1024 (a1 m d) (a5 m d) (a6 m d) (a7 m d) (a14 m d) (ix2 b c) : EReal) := by
  obtain ⟨hl, hh, hle, hw, hw'⟩ := h (ix1 c)
  rw [X1024_at _ _ _ _ h14, ← mm_cell hl hh hle hw hw']
  unfold resJ
  rw [cf_joint_w m d c.isLt, cf_joint_m m d c.isLt, cf_joint_h m d c.isLt, cn_joint m d c.isLt, at1_ix1 (a14 m d) c.isLt,
    cj_at m d b.isLt (h14 _)]

/-- A linear limit's square. -/
theorem resL_sq (h : ∀ i, a10 m d i ≠ ⊥ ∧ a10 m d i ≠ ⊤) (h15 : ∀ i, (a15 m d i).toNat < 512) (h16 : ∀ i, (a16 m d i).toNat < 512)
    (b : Fin 16384) (c : Fin 512) :
    resL (cp m d) (cf m d) (cn m d) b c * resL (cp m d) (cf m d) (cn m d) b c
      = (XL (a0 m d) (a8 m d) (a9 m d) (a10 m d) (a11 m d) (a12 m d) (a15 m d) (a16 m d) (ix2 b c)
        * XL (a0 m d) (a8 m d) (a9 m d) (a10 m d) (a11 m d) (a12 m d) (a15 m d) (a16 m d) (ix2 b c) : EReal) := by
  rw [XL_at _ _ _ _ _ _ h15 h16, ← lin_cell (h (ix1 c))]
  unfold resL
  rw [cf_lin_s m d c.isLt, cf_lin_o m d c.isLt, cf_lin_w m d c.isLt, cf_lin_lo m d c.isLt, cf_lin_hi m d c.isLt,
    cn_ref m d c.isLt, cn_target m d c.isLt, at1_ix1 (a15 m d) c.isLt, at1_ix1 (a16 m d) c.isLt, cp_at m d b.isLt (h15 _), cp_at m d b.isLt (h16 _)]

/-- The kernel's result is the reference's. -/
theorem value_eq (hR : PreOK m) (h : Pre.Cols (a13 m d) (a14 m d) (a15 m d) (a16 m d)) (hmm : Pre.Limits (a2 m d) (a3 m d) (a4 m d))
    (hj : Pre.Limits (a5 m d) (a6 m d) (a7 m d)) (hl : ∀ i, a10 m d i ≠ ⊥ ∧ a10 m d i ≠ ⊤) :
    (Host.reduceAdd (F := Ideal) (cr m d : FVec Ideal S512 .f32) (constant S_ .f32 0x00000000#32) reducesTo_S512_S_d0 h_S_ : FVec Ideal S_ .f32) = lossAt m d := by
  obtain ⟨h13, h14, h15, h16⟩ := h
  refine (total (cj m d) (cp m d) (cf m d) (cn m d) (hR d)).trans (funext fun i => ?_)
  refine Eq.trans ?_ (loss_at _ _ _ _ _ _ _ _ _ _ _ _ _ i).symm
  simp only [Finset.sum_range, resP_sq m d hmm h13, resJ_sq m d hj h14, resL_sq m d hl h15 h16]
  rw [add_comm (∑ b : Fin 16384, ∑ c : Fin 1024, _)]
end

/-- On exact floats, under the precondition, the kernel and the reference end with the same number. -/
theorem algebraic : Cert.algebraic_KernelIdeal_ReferenceIdeal_pre_limits_well_posed := by
  intro m ρ m' ρ' h hm
  have hp := fun d => Pre.limits_of_pre (h d)
  refine ⟨fun c => lossAt m c, (θ_run _ _ _).mono (fun r hr c => ⟨(hr c).1.trans ?_, (hr c).2⟩) (KernelIdeal.run_value (F := Ideal) m ρ fun d => (hp d).1),
    (θ_run _ _ _).mono (fun r hr c => ⟨(hr c).1.trans ?_, (hr c).2⟩) (Cert.ReferenceIdeal.Value.run (F := Ideal) m' ρ')⟩
  · exact value_eq m c (KernelIdeal.preOK_of_cols m fun d => (hp d).1) (hp c).1 (hp c).2.1 (hp c).2.2.1 (hp c).2.2.2
  · obtain ⟨e0, e1, e2, e3, e4, e5, e6, e7, e8, e9, e10, e11, e12, e13, e14, e15, e16⟩ := hm c
    rw [ReferenceIdeal.res_eq, e0, e1, e2, e3, e4, e5, e6, e7, e8, e9, e10, e11, e12, e13, e14, e15, e16]

end Cert.Proof

end
-- ==== Proof.lean ====
/- The proof of the certificate's claims. -/
module

public import proofs.«01_k».proof.Defs
public import proofs.«01_k».proof.Proof.Algebraic
public import proofs.«01_k».proof.Proof.Gen.Pre_limits_well_posed

@[expose] public section

noncomputable section

namespace Cert.Proof

theorem claim : Cert.Claim :=
  ⟨Cert.Kernel.Gen.facts, Cert.KernelIdeal.Gen.facts, Cert.ReferenceIdeal.Gen.facts, Cert.Pre_indices_in_range.Gen.facts, Cert.Pre_limits_well_posed.Gen.facts,
    frame_kernel, frame_kernelIdeal, frame_kernelIdeal_limits, frame_reference, frame_reference_limits, trivial, algebraic⟩

end Cert.Proof

end
